-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S4096x512x4 : Shape := ⟨3, ![4096, 512, 4]⟩
abbrev S4096x512 : Shape := ⟨2, ![4096, 512]⟩
abbrev S1 : Shape := ⟨1, ![1]⟩
abbrev S4096x511 : Shape := ⟨2, ![4096, 511]⟩
abbrev S5x5x5 : Shape := ⟨3, ![5, 5, 5]⟩
abbrev S_ : Shape := ⟨0, ![]⟩
abbrev S4x4x4 : Shape := ⟨3, ![4, 4, 4]⟩

class Facts : Prop where
  bcast_S_S4096x512x4 : S_.BroadcastsInDim S4096x512x4 (![] : Fin 0 → Fin S4096x512x4.rank)
  reducesTo_S4096x512x4_S_d0_1_2 : S4096x512x4.ReducesTo [0, 1, 2] S_
  h_S_ : 0 < S_.numel
  slices_S5x5x5_S4x4x4_0_0_0 : S5x5x5.Slices ![0, 0, 0] S4x4x4
  bcast_S_S4x4x4 : S_.BroadcastsInDim S4x4x4 (![] : Fin 0 → Fin S4x4x4.rank)
  reducesTo_S4x4x4_S_d0_1_2 : S4x4x4.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x512x4 .f32) (main_arg1 : IVec S4096x512 32) (main_arg2 : FVec F S1 .f32) (main_arg3 : IVec S4096x511 32) (main_arg4 : FVec F S5x5x5 .f32) : IVec S_ 1 :=
  let main_v0 : FVec F S4096x512x4 .f32 := Host.absf main_arg0
  let main_cst : FVec F S_ .f32 := constant S_ .f32 0x7F800000#32
  let main_v1 : FVec F S4096x512x4 .f32 := broadcastInDim S4096x512x4 ![] bcast_S_S4096x512x4 main_cst
  let main_v2 : IVec S4096x512x4 1 := cmpf .olt main_v0 main_v1
  let main_c : IVec S_ 1 := constantI S_ 1 1#1
  let main_v3 : IVec S_ 1 := (fun x v => Host.reduce IntOp.andi x v reducesTo_S4096x512x4_S_d0_1_2 h_S_) main_v2 main_c
  let main_v4 : FVec F S4x4x4 .f32 := (extractStridedSlice S4x4x4 ![0, 0, 0] · slices_S5x5x5_S4x4x4_0_0_0) main_arg4
  let main_v5 : FVec F S4x4x4 .f32 := Host.absf main_v4
  let main_cst_0 : FVec F S_ .f32 := constant S_ .f32 0x7F800000#32
  let main_v6 : FVec F S4x4x4 .f32 := broadcastInDim S4x4x4 ![] bcast_S_S4x4x4 main_cst_0
  let main_v7 : IVec S4x4x4 1 := cmpf .olt main_v5 main_v6
  let main_c_1 : IVec S_ 1 := constantI S_ 1 1#1
  let main_v8 : IVec S_ 1 := (fun x v => Host.reduce IntOp.andi x v reducesTo_S4x4x4_S_d0_1_2 h_S_) main_v7 main_c_1
  let main_v9 : IVec S_ 1 := andi main_v3 main_v8
  let main_c_2 : IVec S_ 32 := constantI S_ 32 0#32
  let main_v10 : IVec S4096x512 32 := broadcastInDim S4096x512 ![] bcast_S_S4096x512 main_c_2
  let main_v11 : IVec S4096x512 1 := cmpi .sge main_arg1 main_v10
  let main_c_3 : IVec S_ 32 := constantI S_ 32 4#32
  let main_v12 : IVec S4096x512 32 := broadcastInDim S4096x512 ![] bcast_S_S4096x512 main_c_3
  let main_v13 : IVec S4096x512 1 := cmpi .slt main_arg1 main_v12
  let main_v14 : IVec S4096x512 1 := andi main_v11 main_v13
  let main_c_4 : IVec S_ 1 := constantI S_ 1 1#1
  let main_v15 : IVec S_ 1 := (fun x v => Host.reduce IntOp.andi x v reducesTo_S4096x512_S_d0_1 h_S_) main_v14 main_c_4
  let main_v16 : IVec S_ 1 := andi main_v9 main_v15
  main_v16
-- ==== Kernel.lean ====
abbrev S4096x512x4 : Shape := ⟨3, ![4096, 512, 4]⟩
abbrev S4096x512 : Shape := ⟨2, ![4096, 512]⟩
abbrev S1 : Shape := ⟨1, ![1]⟩
abbrev S4096x511 : Shape := ⟨2, ![4096, 511]⟩
abbrev S5x5x5 : Shape := ⟨3, ![5, 5, 5]⟩
abbrev S_ : Shape := ⟨0, ![]⟩
abbrev S4x4x4 : Shape := ⟨3, ![4, 4, 4]⟩
abbrev S16x4 : Shape := ⟨2, ![16, 4]⟩
abbrev S16 : Shape := ⟨1, ![16]⟩
abbrev S16x1 : Shape := ⟨2, ![16, 1]⟩
abbrev S16x2 : Shape := ⟨2, ![16, 2]⟩
abbrev S1x1x1 : Shape := ⟨3, ![1, 1, 1]⟩
abbrev S4 : Shape := ⟨1, ![4]⟩
abbrev S4x4096x512 : Shape := ⟨3, ![4, 4096, 512]⟩
abbrev S8x1x128 : Shape := ⟨3, ![8, 1, 128]⟩
abbrev S4096x1 : Shape := ⟨2, ![4096, 1]⟩
abbrev S4x512x512 : Shape := ⟨3, ![4, 512, 512]⟩
abbrev S512x512 : Shape := ⟨2, ![512, 512]⟩
abbrev S1x1x128 : Shape := ⟨3, ![1, 1, 128]⟩
abbrev S1x512x512 : Shape := ⟨3, ![1, 512, 512]⟩
abbrev S1x1 : Shape := ⟨2, ![1, 1]⟩
abbrev S128 : Shape := ⟨1, ![128]⟩

abbrev nBuf : Space → Nat
  | .hbm => 148
  | .vmem => 12
  | .smem => 3
  | _ => 0

abbrev hbmTy0_0 (i : Nat) : BufTy := match i % 128 with
  | 0 => ⟨S4096x512x4, .f32⟩
  | 1 => ⟨S4096x512, .i32⟩
  | 2 => ⟨S1, .f32⟩
  | 3 => ⟨S4096x511, .i32⟩
  | 4 => ⟨S5x5x5, .f32⟩
  | 5 => ⟨S_, .f32⟩
  | 6 => ⟨S_, .f32⟩
  | 7 => ⟨S_, .f32⟩
  | 8 => ⟨S_, .f32⟩
  | 9 => ⟨S_, .f32⟩
  | 10 => ⟨S4x4x4, .f32⟩
  | 11 => ⟨S16x4, .f32⟩
  | 12 => ⟨S_, .f32⟩
  | 13 => ⟨S16x4, .f32⟩
  | 14 => ⟨S16x4, .f32⟩
  | 15 => ⟨S16, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S16, .i32⟩
  | 23 => ⟨S16, .i32⟩
  | 24 => ⟨S_, .i32⟩
  | 25 => ⟨S16, .i32⟩
  | 26 => ⟨S16, .i1⟩
  | 27 => ⟨S_, .i32⟩
  | 28 => ⟨S16, .i32⟩
  | 29 => ⟨S16, .i1⟩
  | 30 => ⟨S_, .i32⟩
  | 31 => ⟨S_, .i1⟩
  | 32 => ⟨S16, .i1⟩
  | 33 => ⟨S16, .i1⟩
  | 34 => ⟨S16, .i1⟩
  | 35 => ⟨S16, .i32⟩
  | 36 => ⟨S16, .i32⟩
  | 37 => ⟨S16, .i32⟩
  | 38 => ⟨S16, .i32⟩
  | 39 => ⟨S_, .f32⟩
  | 40 => ⟨S16, .f32⟩
  | 41 => ⟨S_, .f32⟩
  | 42 => ⟨S16, .f32⟩
  | 43 => ⟨S16, .f32⟩
  | 44 => ⟨S_, .i32⟩
  | 45 => ⟨S16, .i32⟩
  | 46 => ⟨S16, .i1⟩
  | 47 => ⟨S_, .i32⟩
  | 48 => ⟨S16, .i32⟩
  | 49 => ⟨S16, .i32⟩
  | 50 => ⟨S16, .i32⟩
  | 51 => ⟨S_, .i32⟩
  | 52 => ⟨S16, .i32⟩
  | 53 => ⟨S16, .i1⟩
  | 54 => ⟨S_, .i32⟩
  | 55 => ⟨S16, .i32⟩
  | 56 => ⟨S16, .i32⟩
  | 57 => ⟨S16, .i32⟩
  | 58 => ⟨S16x1, .i32⟩
  | 59 => ⟨S16x1, .i32⟩
  | 60 => ⟨S16x2, .i32⟩
  | 61 => ⟨S16x4, .f32⟩
  | 62 => ⟨S_, .f32⟩
  | 63 => ⟨S16x4, .f32⟩
  | 64 => ⟨S16x4, .i1⟩
  | 65 => ⟨S16x4, .i1⟩
  | 66 => ⟨S16x4, .i1⟩
  | 67 => ⟨S16x4, .f32⟩
  | 68 => ⟨S16x4, .f32⟩
  | 69 => ⟨S_, .f32⟩
  | 70 => ⟨S16x4, .f32⟩
  | 71 => ⟨S16x4, .f32⟩
  | 72 => ⟨S_, .f32⟩
  | 73 => ⟨S16, .f32⟩
  | 74 => ⟨S1x1x1, .f32⟩
  | 75 => ⟨S_, .f32⟩
  | 76 => ⟨S_, .f32⟩
  | 77 => ⟨S_, .f32⟩
  | 78 => ⟨S_, .f32⟩
  | 79 => ⟨S_, .i1⟩
  | 80 => ⟨S_, .i1⟩
  | 81 => ⟨S_, .i1⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .i1⟩
  | 98 => ⟨S_, .i1⟩
  | 99 => ⟨S_, .i1⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1, .f32⟩
  | 111 => ⟨S1, .f32⟩
  | 112 => ⟨S1, .f32⟩
  | 113 => ⟨S1, .f32⟩
  | 114 => ⟨S4, .f32⟩
  | 115 => ⟨S4x4x4, .f32⟩
  | 116 => ⟨S4x4x4, .i1⟩
  | 117 => ⟨S_, .i1⟩
  | 118 => ⟨S_, .i1⟩
  | 119 => ⟨S4x4096x512, .f32⟩
  | 120 => ⟨S4x4096x512, .bf16⟩
  | 121 => ⟨S_, .i32⟩
  | 122 => ⟨S8x1x128, .f32⟩
  | 123 => ⟨S_, .i32⟩
  | 124 => ⟨S4096x1, .i32⟩
  | 125 => ⟨S4096x511, .i32⟩
  | 126 => ⟨S4096x512, .i32⟩
  | 127 => ⟨S_, .i32⟩
  | _ => ⟨S4096x512x4, .f32⟩

abbrev hbmTy0_1 (i : Nat) : BufTy := match i % 128 with
  | 0 => ⟨S4096x512, .i32⟩
  | 1 => ⟨S4096x512, .i32⟩
  | 2 => ⟨S4096x512, .i32⟩
  | 3 => ⟨S8x1x128, .f32⟩
  | 4 => ⟨S8x1x128, .f32⟩
  | 5 => ⟨S_, .f32⟩
  | 6 => ⟨S128, .f32⟩
  | 7 => ⟨S1, .f32⟩
  | 8 => ⟨S_, .f32⟩
  | 9 => ⟨S1, .f32⟩
  | 10 => ⟨S_, .f32⟩
  | 11 => ⟨S_, .f32⟩
  | 12 => ⟨S1, .f32⟩
  | 13 => ⟨S_, .f32⟩
  | 14 => ⟨S1, .f32⟩
  | 15 => ⟨S_, .f32⟩
  | 16 => ⟨S_, .f32⟩
  | 17 => ⟨S_, .f32⟩
  | 18 => ⟨S_, .f32⟩
  | 19 => ⟨S_, .f32⟩
  | _ => ⟨S4096x512x4, .f32⟩

abbrev hbmTy (i : Nat) : BufTy := match i / 128 with
  | 0 => hbmTy0_0 i
  | 1 => hbmTy0_1 i
  | _ => ⟨S4096x512x4, .f32⟩

abbrev bufTy : (tb : Table) → Fin (tcTables nBuf tb) → BufTy
  | .hbm, ⟨i, _⟩ => hbmTy i
  | .local _ .vmem, ⟨0, _⟩ => ⟨S4x512x512, .bf16⟩
  | .local _ .vmem, ⟨1, _⟩ => ⟨S4x512x512, .bf16⟩
  | .local _ .vmem, ⟨2, _⟩ => ⟨S512x512, .i32⟩
  | .local _ .vmem, ⟨3, _⟩ => ⟨S512x512, .i32⟩
  | .local _ .vmem, ⟨4, _⟩ => ⟨S1x1x128, .f32⟩
  | .local _ .vmem, ⟨5, _⟩ => ⟨S1x1x128, .f32⟩
  | .local _ .vmem, ⟨6, _⟩ => ⟨S4x512x512, .bf16⟩
  | .local _ .vmem, ⟨7, _⟩ => ⟨S4x512x512, .bf16⟩
  | .local _ .vmem, ⟨8, _⟩ => ⟨S512x512, .i32⟩
  | .local _ .vmem, ⟨9, _⟩ => ⟨S512x512, .i32⟩
  | .local _ .vmem, ⟨10, _⟩ => ⟨S1x1x128, .f32⟩
  | .local _ .vmem, ⟨11, _⟩ => ⟨S1x1x128, .f32⟩
  | .local _ .smem, ⟨0, _⟩ => ⟨S16x4, .f32⟩
  | .local _ .smem, ⟨1, _⟩ => ⟨S16, .f32⟩
  | .local _ .smem, ⟨2, _⟩ => ⟨S4, .f32⟩
  | _, _ => ⟨S4096x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_cst_3 : Ref sig .tc := ⟨.hbm, 41, rfl⟩
abbrev main_v11 : Ref sig .tc := ⟨.hbm, 42, rfl⟩
abbrev main_v12 : Ref sig .tc := ⟨.hbm, 43, rfl⟩
abbrev main_c_4 : Ref sig .tc := ⟨.hbm, 44, rfl⟩
abbrev main_v13 : Ref sig .tc := ⟨.hbm, 45, rfl⟩
abbrev main_v14 : Ref sig .tc := ⟨.hbm, 46, rfl⟩
abbrev main_c_5 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c_6 : Ref sig .tc := ⟨.hbm, 51, rfl⟩
abbrev main_v18 : Ref sig .tc := ⟨.hbm, 52, rfl⟩
abbrev main_v19 : Ref sig .tc := ⟨.hbm, 53, rfl⟩
abbrev main_c_7 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_cst_10 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_12 : Ref sig .tc := ⟨.hbm, 84, rfl⟩
abbrev main_v45 : Ref sig .tc := ⟨.hbm, 85, rfl⟩
abbrev main_cst_13 : Ref sig .tc := ⟨.hbm, 86, rfl⟩
abbrev main_v46 : Ref sig .tc := ⟨.hbm, 87, rfl⟩
abbrev main_cst_14 : Ref sig .tc := ⟨.hbm, 88, rfl⟩
abbrev main_v47 : Ref sig .tc := ⟨.hbm, 89, rfl⟩
abbrev main_cst_15 : Ref sig .tc := ⟨.hbm, 90, rfl⟩
abbrev main_v48 : Ref sig .tc := ⟨.hbm, 91, rfl⟩
abbrev main_cst_16 : Ref sig .tc := ⟨.hbm, 92, rfl⟩
abbrev main_v49 : Ref sig .tc := ⟨.hbm, 93, rfl⟩
abbrev main_cst_17 : Ref sig .tc := ⟨.hbm, 94, rfl⟩
abbrev main_v50 : Ref sig .tc := ⟨.hbm, 95, rfl⟩
abbrev main_cst_18 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_19 : Ref sig .tc := ⟨.hbm, 102, rfl⟩
abbrev main_v56 : Ref sig .tc := ⟨.hbm, 103, rfl⟩
abbrev main_v57 : Ref sig .tc := ⟨.hbm, 104, rfl⟩
abbrev main_cst_20 : Ref sig .tc := ⟨.hbm, 105, rfl⟩
abbrev main_v58 : Ref sig .tc := ⟨.hbm, 106, rfl⟩
abbrev main_cst_21 : Ref sig .tc := ⟨.hbm, 107, rfl⟩
abbrev main_v59 : Ref sig .tc := ⟨.hbm, 108, rfl⟩
abbrev main_cst_22 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_23 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_case0b0_c_26 : Ref sig .tc := ⟨.hbm, 123, rfl⟩
abbrev main_case0b0_v85 : Ref sig .tc := ⟨.hbm, 124, rfl⟩
abbrev main_case0b0_v86 : Ref sig .tc := ⟨.hbm, 125, rfl⟩
abbrev main_case0b0_v87 : Ref sig .tc := ⟨.hbm, 126, rfl⟩
abbrev main_case0b0_c_27 : Ref sig .tc := ⟨.hbm, 127, rfl⟩
abbrev main_case0b0_v88 : Ref sig .tc := ⟨.hbm, 128, rfl⟩
abbrev main_case0b0_v89 : Ref sig .tc := ⟨.hbm, 129, rfl⟩
abbrev main_case0b0_v90 : Ref sig .tc := ⟨.hbm, 130, rfl⟩
abbrev main_case0b0_v91 : Ref sig .tc := ⟨.hbm, 131, rfl⟩
abbrev main_case0b1_v85 : Ref sig .tc := ⟨.hbm, 132, rfl⟩
abbrev main_cst_24 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_25 : Ref sig .tc := ⟨.hbm, 145, rfl⟩
abbrev main_v83 : Ref sig .tc := ⟨.hbm, 146, rfl⟩
abbrev main_v84 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg4_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_stg2_0 : Ref sig .tc := ⟨.smem, 0, rfl⟩
abbrev cc0_stg3_0 : Ref sig .tc := ⟨.smem, 1, rfl⟩
abbrev cc1_stg2_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S16x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x512x4 : Shape := ⟨3, ![4096, 512, 4]⟩
abbrev S4096x512 : Shape := ⟨2, ![4096, 512]⟩
abbrev S1 : Shape := ⟨1, ![1]⟩
abbrev S4096x511 : Shape := ⟨2, ![4096, 511]⟩
abbrev S5x5x5 : Shape := ⟨3, ![5, 5, 5]⟩
abbrev S_ : Shape := ⟨0, ![]⟩
abbrev S4096 : Shape := ⟨1, ![4096]⟩
abbrev S2097152x4 : Shape := ⟨2, ![2097152, 4]⟩
abbrev S2097152 : Shape := ⟨1, ![2097152]⟩
abbrev S2097152x1 : Shape := ⟨2, ![2097152, 1]⟩
abbrev S2097152x1x1 : Shape := ⟨3, ![2097152, 1, 1]⟩
abbrev S1x1x1 : Shape := ⟨3, ![1, 1, 1]⟩
abbrev S4096x1 : Shape := ⟨2, ![4096, 1]⟩
abbrev S4x4x4 : Shape := ⟨3, ![4, 4, 4]⟩
abbrev S2097152x2 : Shape := ⟨2, ![2097152, 2]⟩

abbrev nBuf : Space → Nat
  | .hbm => 153
  | .vmem => 0
  | .smem => 0
  | _ => 0

abbrev hbmTy0_0 (i : Nat) : BufTy := match i % 128 with
  | 0 => ⟨S4096x512x4, .f32⟩
  | 1 => ⟨S4096x512, .i32⟩
  | 2 => ⟨S1, .f32⟩
  | 3 => ⟨S4096x511, .i32⟩
  | 4 => ⟨S5x5x5, .f32⟩
  | 5 => ⟨S_, .f32⟩
  | 6 => ⟨S4096, .f32⟩
  | 7 => ⟨S2097152x4, .f32⟩
  | 8 => ⟨S2097152, .i32⟩
  | 9 => ⟨S_, .f32⟩
  | 10 => ⟨S2097152, .f32⟩
  | 11 => ⟨S_, .f32⟩
  | 12 => ⟨S2097152, .f32⟩
  | 13 => ⟨S2097152, .f32⟩
  | 14 => ⟨S2097152x1, .f32⟩
  | 15 => ⟨S2097152x4, .f32⟩
  | 16 => ⟨S2097152x4, .f32⟩
  | 17 => ⟨S2097152x4, .f32⟩
  | 18 => ⟨S_, .f32⟩
  | 19 => ⟨S2097152, .f32⟩
  | 20 => ⟨S2097152x1, .f32⟩
  | 21 => ⟨S2097152x1, .f32⟩
  | 22 => ⟨S2097152x4, .f32⟩
  | 23 => ⟨S2097152x4, .f32⟩
  | 24 => ⟨S2097152x1, .i32⟩
  | 25 => ⟨S_, .i32⟩
  | 26 => ⟨S2097152x1, .i32⟩
  | 27 => ⟨S2097152x1, .i1⟩
  | 28 => ⟨S_, .i32⟩
  | 29 => ⟨S2097152x1, .i32⟩
  | 30 => ⟨S2097152x1, .i32⟩
  | 31 => ⟨S2097152x1, .i32⟩
  | 32 => ⟨S2097152x1x1, .i32⟩
  | 33 => ⟨S1, .i32⟩
  | 34 => ⟨S_, .i32⟩
  | 35 => ⟨S2097152x1x1, .i32⟩
  | 36 => ⟨S2097152x1x1, .i1⟩
  | 37 => ⟨S1x1x1, .i32⟩
  | 38 => ⟨S2097152x1x1, .i32⟩
  | 39 => ⟨S2097152x1x1, .i1⟩
  | 40 => ⟨S2097152x1x1, .i1⟩
  | 41 => ⟨S_, .i1⟩
  | 42 => ⟨S2097152x1, .i1⟩
  | 43 => ⟨S2097152x1, .f32⟩
  | 44 => ⟨S_, .f32⟩
  | 45 => ⟨S2097152x1, .f32⟩
  | 46 => ⟨S2097152x1, .f32⟩
  | 47 => ⟨S2097152, .f32⟩
  | 48 => ⟨S2097152, .f32⟩
  | 49 => ⟨S_, .i32⟩
  | 50 => ⟨S2097152, .i32⟩
  | 51 => ⟨S2097152, .i1⟩
  | 52 => ⟨S2097152, .f32⟩
  | 53 => ⟨S2097152, .f32⟩
  | 54 => ⟨S_, .f32⟩
  | 55 => ⟨S_, .f32⟩
  | 56 => ⟨S_, .f32⟩
  | 57 => ⟨S_, .f32⟩
  | 58 => ⟨S_, .f32⟩
  | 59 => ⟨S_, .i32⟩
  | 60 => ⟨S4096x1, .i32⟩
  | 61 => ⟨S4096x511, .i32⟩
  | 62 => ⟨S4096x512, .i32⟩
  | 63 => ⟨S2097152, .i32⟩
  | 64 => ⟨S_, .f32⟩
  | 65 => ⟨S2097152, .f32⟩
  | 66 => ⟨S_, .f32⟩
  | 67 => ⟨S2097152, .f32⟩
  | 68 => ⟨S2097152, .f32⟩
  | 69 => ⟨S2097152x1, .f32⟩
  | 70 => ⟨S2097152x4, .f32⟩
  | 71 => ⟨S2097152x4, .f32⟩
  | 72 => ⟨S2097152x4, .f32⟩
  | 73 => ⟨S_, .f32⟩
  | 74 => ⟨S2097152, .f32⟩
  | 75 => ⟨S2097152x1, .f32⟩
  | 76 => ⟨S2097152x4, .f32⟩
  | 77 => ⟨S2097152x4, .f32⟩
  | 78 => ⟨S_, .f32⟩
  | 79 => ⟨S4096, .f32⟩
  | 80 => ⟨S4096, .f32⟩
  | 81 => ⟨S_, .f32⟩
  | 82 => ⟨S4096, .f32⟩
  | 83 => ⟨S4096, .f32⟩
  | 84 => ⟨S_, .f32⟩
  | 85 => ⟨S4096, .f32⟩
  | 86 => ⟨S4096, .f32⟩
  | 87 => ⟨S4096x1, .f32⟩
  | 88 => ⟨S4096x512, .f32⟩
  | 89 => ⟨S2097152, .f32⟩
  | 90 => ⟨S4x4x4, .f32⟩
  | 91 => ⟨S2097152x1, .f32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S_, .i32⟩
  | 100 => ⟨S2097152, .i32⟩
  | 101 => ⟨S2097152, .i1⟩
  | 102 => ⟨S_, .i32⟩
  | 103 => ⟨S2097152, .i32⟩
  | 104 => ⟨S2097152, .i32⟩
  | 105 => ⟨S2097152, .i32⟩
  | 106 => ⟨S2097152x1, .i32⟩
  | 107 => ⟨S2097152x1, .i32⟩
  | 108 => ⟨S2097152x2, .i32⟩
  | 109 => ⟨S2097152x4, .f32⟩
  | 110 => ⟨S2097152x4, .f32⟩
  | 111 => ⟨S2097152x4, .f32⟩
  | 112 => ⟨S_, .f32⟩
  | 113 => ⟨S2097152, .f32⟩
  | 114 => ⟨S_, .f32⟩
  | 115 => ⟨S2097152, .f32⟩
  | 116 => ⟨S2097152, .f32⟩
  | 117 => ⟨S2097152, .i32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S4096x512x4, .f32⟩

abbrev hbmTy0_1 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x1, .i32⟩
  | 6 => ⟨S2097152x2, .i32⟩
  | 7 => ⟨S2097152x4, .f32⟩
  | 8 => ⟨S_, .f32⟩
  | 9 => ⟨S2097152x4, .f32⟩
  | 10 => ⟨S2097152x4, .i1⟩
  | 11 => ⟨S2097152x4, .i1⟩
  | 12 => ⟨S2097152x4, .i1⟩
  | 13 => ⟨S2097152x4, .f32⟩
  | 14 => ⟨S2097152x4, .f32⟩
  | 15 => ⟨S_, .f32⟩
  | 16 => ⟨S2097152x4, .f32⟩
  | 17 => ⟨S2097152x4, .f32⟩
  | 18 => ⟨S2097152x4, .f32⟩
  | 19 => ⟨S2097152x4, .f32⟩
  | 20 => ⟨S_, .f32⟩
  | 21 => ⟨S_, .f32⟩
  | 22 => ⟨S_, .f32⟩
  | 23 => ⟨S_, .f32⟩
  | 24 => ⟨S_, .f32⟩
  | _ => ⟨S4096x512x4, .f32⟩

abbrev hbmTy (i : Nat) : BufTy := match i / 128 with
  | 0 => hbmTy0_0 i
  | 1 => hbmTy0_1 i
  | _ => ⟨S4096x512x4, .f32⟩

abbrev bufTy : (tb : Table) → Fin (tcTables nBuf tb) → BufTy
  | .hbm, ⟨i, _⟩ => hbmTy i
  | _, _ => ⟨S4096x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v3 : Ref sig .tc := ⟨.hbm, 23, rfl⟩
abbrev main_v4 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_c : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_0 : Ref sig .tc := ⟨.hbm, 54, rfl⟩
abbrev main_v12 : Ref sig .tc := ⟨.hbm, 55, rfl⟩
abbrev main_cst_1 : Ref sig .tc := ⟨.hbm, 56, rfl⟩
abbrev main_v13 : Ref sig .tc := ⟨.hbm, 57, rfl⟩
abbrev main_v14 : Ref sig .tc := ⟨.hbm, 58, rfl⟩
abbrev main_c_2 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_cst_3 : Ref sig .tc := ⟨.hbm, 64, rfl⟩
abbrev main_v19 : Ref sig .tc := ⟨.hbm, 65, rfl⟩
abbrev main_cst_4 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_5 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_6 : Ref sig .tc := ⟨.hbm, 78, rfl⟩
abbrev main_v30 : Ref sig .tc := ⟨.hbm, 79, rfl⟩
abbrev main_v31 : Ref sig .tc := ⟨.hbm, 80, rfl⟩
abbrev main_cst_7 : Ref sig .tc := ⟨.hbm, 81, rfl⟩
abbrev main_v32 : Ref sig .tc := ⟨.hbm, 82, rfl⟩
abbrev main_v33 : Ref sig .tc := ⟨.hbm, 83, rfl⟩
abbrev main_cst_8 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_9 : Ref sig .tc := ⟨.hbm, 92, rfl⟩
abbrev main_v41 : Ref sig .tc := ⟨.hbm, 93, rfl⟩
abbrev main_v42 : Ref sig .tc := ⟨.hbm, 94, rfl⟩
abbrev main_c_10 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_c_11 : Ref sig .tc := ⟨.hbm, 99, rfl⟩
abbrev main_v46 : Ref sig .tc := ⟨.hbm, 100, rfl⟩
abbrev main_v47 : Ref sig .tc := ⟨.hbm, 101, rfl⟩
abbrev main_c_12 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_13 : Ref sig .tc := ⟨.hbm, 112, rfl⟩
abbrev main_v57 : Ref sig .tc := ⟨.hbm, 113, rfl⟩
abbrev main_cst_14 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_c_15 : Ref sig .tc := ⟨.hbm, 118, rfl⟩
abbrev main_v61 : Ref sig .tc := ⟨.hbm, 119, rfl⟩
abbrev main_v62 : Ref sig .tc := ⟨.hbm, 120, rfl⟩
abbrev main_c_16 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_c_17 : Ref sig .tc := ⟨.hbm, 125, rfl⟩
abbrev main_v66 : Ref sig .tc := ⟨.hbm, 126, rfl⟩
abbrev main_v67 : Ref sig .tc := ⟨.hbm, 127, rfl⟩
abbrev main_c_18 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_19 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_cst_20 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_21 : Ref sig .tc := ⟨.hbm, 148, rfl⟩
abbrev main_v85 : Ref sig .tc := ⟨.hbm, 149, rfl⟩
abbrev main_cst_22 : Ref sig .tc := ⟨.hbm, 150, rfl⟩
abbrev main_v86 : Ref sig .tc := ⟨.hbm, 151, rfl⟩
abbrev main_v87 : Ref sig .tc := ⟨.hbm, 152, rfl⟩

abbrev nD : Nat := 1
abbrev τ : Topo := Topo.v7x

variable {F : FTy → Type} [FloatOps F]
-- ==== Proof.KernelIdeal.Bodies.lean ====
/-
  Both kernel bodies, run on any whole staging memrefs: the general body (codes, weights and per-code sums in scalar
  memory) and the fast body (targets and four parameters in scalar memory). Each run ends with one covering store into
  the output's block; what that block holds is named here (`genOut`, `fastOut`) and computed in the value modules.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The resource algebra of the whole run: one copy of the pipeline's algebra for each of the two calls, beside the
    counters of the transfers. -/
abbrev UU : Type := IProdConst (Fin 2) (UR sig nD τ) × Counters

local notation "𝕄" => MT nD τ sig Unit (Elt F) ℕ UU ℕ

set_option maxHeartbeats 1000000 in
/-- The general body's run: the pieces its store leaves in the output's memref, and the triple that they satisfy. -/
noncomputable def genRun (c : Dev nD) (i : grid0.Coords) (arg1 : Memref sig .tc .vmem S4x512x512 .bf16) (harg1 : arg1.IsWhole)
    (arg2 : Memref sig .tc .vmem S512x512 .i32) (harg2 : arg2.IsWhole) (arg3 : Memref sig .tc .smem S16x4 .f32) (harg3 : arg3.IsWhole)
    (arg4 : Memref sig .tc .smem S16 .f32) (harg4 : arg4.IsWhole) (arg5 : Memref sig .tc .vmem S1x1x128 .f32) (harg5 : arg5.IsWhole)
    (x0 : Vec F S4x512x512 .bf16) (x1 : Vec F S512x512 .i32) (x2 : Vec F S16x4 .f32) (x3 : Vec F S16 .f32) :
    { L : List (View.Piece (Elt F) S1x1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc0__body_general i arg1 harg1 arg2 harg2 arg3 harg3 arg4 harg4 arg5 harg5) K } := by
  refine ⟨?_, fun E K => ?run⟩
  case run =>
    simp only [cc0__body_general_eq_skeleton]; unfold cc0__body_general_skel
    simp only [k0_part12_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton]
    unfold owns
    iintro ⟨⟨%f0, %e0, I0⟩, ⟨%f1, %e1, I1⟩, ⟨%f2, %e2, I2⟩, ⟨%f3, %e3, I3⟩, ⟨%d, %fo, -, O⟩, Hk⟩
    obtain rfl := harg1.eq_unread e0
    obtain rfl := harg2.eq_unread e1
    obtain rfl := harg3.eq_unread e2
    obtain rfl := harg4.eq_unread e3
    sl_exec
    sl_step
    iapply Hk
    isplitl [I0]
    · iexists _; isplitr; · ipureintro; exact harg1.read_unread _
      iexact I0
    isplitl [I1]
    · iexists _; isplitr; · ipureintro; exact harg2.read_unread _
      iexact I1
    isplitl [I2]
    · iexists _; isplitr; · ipureintro; exact harg3.read_unread _
      iexact I2
    isplitl [I3]
    · iexists _; isplitr; · ipureintro; exact harg4.read_unread _
      iexact I3
    iexists _; iexact O

set_option maxHeartbeats 1000000 in
/-- The fast body's run: the pieces its store leaves in the output's memref, and the triple that they satisfy. -/
noncomputable def fastRun (c : Dev nD) (i : grid1.Coords) (arg1 : Memref sig .tc .vmem S4x512x512 .bf16) (harg1 : arg1.IsWhole)
    (arg2 : Memref sig .tc .vmem S512x512 .i32) (harg2 : arg2.IsWhole) (arg3 : Memref sig .tc .smem S4 .f32) (harg3 : arg3.IsWhole)
    (arg4 : Memref sig .tc .vmem S1x1x128 .f32) (harg4 : arg4.IsWhole)
    (x0 : Vec F S4x512x512 .bf16) (x1 : Vec F S512x512 .i32) (x2 : Vec F S4 .f32) :
    { L : List (View.Piece (Elt F) S1x1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc1__body_fast i arg1 harg1 arg2 harg2 arg3 harg3 arg4 harg4) K } := by
  refine ⟨?_, fun E K => ?run⟩
  case run =>
    simp only [cc1__body_fast_eq_skeleton]; unfold cc1__body_fast_skel
    simp only [k1_part1_eq_skeleton, k1_part2_eq_skeleton]
    unfold owns
    iintro ⟨⟨%f0, %e0, I0⟩, ⟨%f1, %e1, I1⟩, ⟨%f2, %e2, I2⟩, ⟨%d, %fo, -, O⟩, Hk⟩
    obtain rfl := harg1.eq_unread e0
    obtain rfl := harg2.eq_unread e1
    obtain rfl := harg3.eq_unread e2
    sl_exec
    sl_step
    iapply Hk
    isplitl [I0]
    · iexists _; isplitr; · ipureintro; exact harg1.read_unread _
      iexact I0
    isplitl [I1]
    · iexists _; isplitr; · ipureintro; exact harg2.read_unread _
      iexact I1
    isplitl [I2]
    · iexists _; isplitr; · ipureintro; exact harg3.read_unread _
      iexact I2
    iexists _; iexact O

/-- The staging memrefs of the general call at a grid point, and of the fast call. -/
abbrev gm0 (t : Fin cfg0.N) : Memref sig .tc .vmem S4x512x512 .bf16 := win0_0.stage (cfg0.slots t 0)
abbrev gm1 (t : Fin cfg0.N) : Memref sig .tc .vmem S512x512 .i32 := win0_1.stage (cfg0.slots t 1)
abbrev gm2 (t : Fin cfg0.N) : Memref sig .tc .smem S16x4 .f32 := win0_2.stage (cfg0.slots t 2)
abbrev gm3 (t : Fin cfg0.N) : Memref sig .tc .smem S16 .f32 := win0_3.stage (cfg0.slots t 3)
abbrev gm4 (t : Fin cfg0.N) : Memref sig .tc .vmem S1x1x128 .f32 := win0_4.stage (cfg0.slots t 4)
abbrev fm0 (t : Fin cfg1.N) : Memref sig .tc .vmem S4x512x512 .bf16 := win1_0.stage (cfg1.slots t 0)
abbrev fm1 (t : Fin cfg1.N) : Memref sig .tc .vmem S512x512 .i32 := win1_1.stage (cfg1.slots t 1)
abbrev fm2 (t : Fin cfg1.N) : Memref sig .tc .smem S4 .f32 := win1_2.stage (cfg1.slots t 2)
abbrev fm3 (t : Fin cfg1.N) : Memref sig .tc .vmem S1x1x128 .f32 := win1_3.stage (cfg1.slots t 3)

theorem gw0 (t : Fin cfg0.N) : (gm0 t).IsWhole := hstage0_0 ((cfg0.slots t 0).cast nbuf0_0)
theorem gw1 (t : Fin cfg0.N) : (gm1 t).IsWhole := hstage0_1 ((cfg0.slots t 1).cast nbuf0_1)
theorem gw2 (t : Fin cfg0.N) : (gm2 t).IsWhole := hstage0_2 ((cfg0.slots t 2).cast nbuf0_2)
theorem gw3 (t : Fin cfg0.N) : (gm3 t).IsWhole := hstage0_3 ((cfg0.slots t 3).cast nbuf0_3)
theorem gw4 (t : Fin cfg0.N) : (gm4 t).IsWhole := hstage0_4 ((cfg0.slots t 4).cast nbuf0_4)
theorem fw0 (t : Fin cfg1.N) : (fm0 t).IsWhole := hstage1_0 ((cfg1.slots t 0).cast nbuf1_0)
theorem fw1 (t : Fin cfg1.N) : (fm1 t).IsWhole := hstage1_1 ((cfg1.slots t 1).cast nbuf1_1)
theorem fw2 (t : Fin cfg1.N) : (fm2 t).IsWhole := hstage1_2 ((cfg1.slots t 2).cast nbuf1_2)
theorem fw3 (t : Fin cfg1.N) : (fm3 t).IsWhole := hstage1_3 ((cfg1.slots t 3).cast nbuf1_3)

/-- One staging buffer of each output, through which its block's contents are stated. -/
abbrev genView : View sig .tc .vmem S1x1x128 .f32 := (Memref.whole cc0_stg4_0 : Memref sig .tc .vmem S1x1x128 .f32).view
abbrev fastView : View sig .tc .vmem S1x1x128 .f32 := (Memref.whole cc1_stg3_0 : Memref sig .tc .vmem S1x1x128 .f32).view

/-- The one store of the general body covers its block. -/
theorem genCover (c : Dev nD) (i : grid0.Coords) (arg1 : Memref sig .tc .vmem S4x512x512 .bf16) (harg1 : arg1.IsWhole)
    (arg2 : Memref sig .tc .vmem S512x512 .i32) (harg2 : arg2.IsWhole) (arg3 : Memref sig .tc .smem S16x4 .f32) (harg3 : arg3.IsWhole)
    (arg4 : Memref sig .tc .smem S16 .f32) (harg4 : arg4.IsWhole) (arg5 : Memref sig .tc .vmem S1x1x128 .f32) (harg5 : arg5.IsWhole)
    (x0 : Vec F S4x512x512 .bf16) (x1 : Vec F S512x512 .i32) (x2 : Vec F S16x4 .f32) (x3 : Vec F S16 .f32) (y : S1x1x128.Idx) :
    ∃ pc ∈ (genRun c i arg1 harg1 arg2 harg2 arg3 harg3 arg4 harg4 arg5 harg5 x0 x1 x2 x3).1, y ∈ pc.1.set :=
  View.cover_of_tiledL _ S1x1x128.size (by sl_kernel_rfl) y

/-- The one store of the fast body covers its block. -/
theorem fastCover (c : Dev nD) (i : grid1.Coords) (arg1 : Memref sig .tc .vmem S4x512x512 .bf16) (harg1 : arg1.IsWhole)
    (arg2 : Memref sig .tc .vmem S512x512 .i32) (harg2 : arg2.IsWhole) (arg3 : Memref sig .tc .smem S4 .f32) (harg3 : arg3.IsWhole)
    (arg4 : Memref sig .tc .vmem S1x1x128 .f32) (harg4 : arg4.IsWhole)
    (x0 : Vec F S4x512x512 .bf16) (x1 : Vec F S512x512 .i32) (x2 : Vec F S4 .f32) (y : S1x1x128.Idx) :
    ∃ pc ∈ (fastRun c i arg1 harg1 arg2 harg2 arg3 harg3 arg4 harg4 x0 x1 x2).1, y ∈ pc.1.set :=
  View.cover_of_tiledL _ S1x1x128.size (by sl_kernel_rfl) y

/-- The output block of the general call at grid point `t`, from the blocks of its four inputs. -/
def genOut (c : Dev nD) (t : Fin cfg0.N) (x0 : Vec F S4x512x512 .bf16) (x1 : Vec F S512x512 .i32) (x2 : Vec F S16x4 .f32)
    (x3 : Vec F S16 .f32) : Vec F S1x1x128 .f32 :=
  genView.read (Elt F) (genView.writes (Elt F) genView.junk
    (genRun c (grid0.coords t) (gm0 t) (gw0 t) (gm1 t) (gw1 t) (gm2 t) (gw2 t) (gm3 t) (gw3 t) (gm4 t) (gw4 t) x0 x1 x2 x3).1)

/-- The output block of the fast call at grid point `t`, from the blocks of its three inputs. -/
def fastOut (c : Dev nD) (t : Fin cfg1.N) (x0 : Vec F S4x512x512 .bf16) (x1 : Vec F S512x512 .i32) (x2 : Vec F S4 .f32) :
    Vec F S1x1x128 .f32 :=
  fastView.read (Elt F) (fastView.writes (Elt F) fastView.junk
    (fastRun c (grid1.coords t) (fm0 t) (fw0 t) (fm1 t) (fw1 t) (fm2 t) (fw2 t) (fm3 t) (fw3 t) x0 x1 x2).1)

end Cert.KernelIdeal.Run

end
-- ==== Proof.KernelIdeal.Calls.lean ====
/-
  The two calls as segments of the run. Each is entered from the thread state "every unscoped buffer at `V`", for any `V`,
  and left with the unscoped buffers at `V` but for its output, which holds what its grid points wrote back.
-/
module

public import proofs.«01_k».proof.Proof.KernelIdeal.Bodies
public import Idealize.ShloMosaic.Lib.Pipeline.RegionsLoop

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-- No table is prefetched by either call. -/
abbrev adm : (p : Fin 2) → (pcfgs (F := F) p).Adm := fun p => (cfgs p).toPCfg_adm
/-- No bound of variants; no semaphore is assigned a level. -/
abbrev 𝒱₀ : Variants := Variants.none
abbrev L : GSem nD τ sig → Finset Unit := fun _ => ∅
abbrev lv : GSem nD τ sig → Unit → ℕ := fun _ _ => 0

variable (V : (c : Dev nD) → (b : Ref sig .tc) → Buf (Elt F) ((c : Thread nD τ).loc b))

/-- The block of window `w` of the general call at point `t`, read off its array at entry; and of the fast call. -/
def gblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def fblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the general call entered at `V`. -/
def gdat (c : Dev nD) : Dat τ (Elt F) Unit ℕ UU ℕ cfg0 c where
  A w := V c (Pipeline.arrRef spec0 w)
  after w t := match w with
    | ⟨0, _⟩ => gblk V c 0 t
    | ⟨1, _⟩ => gblk V c 1 t
    | ⟨2, _⟩ => gblk V c 2 t
    | ⟨3, _⟩ => gblk V c 3 t
    | ⟨4, _⟩ => genOut c t (gblk V c 0 t) (gblk V c 1 t) (gblk V c 2 t) (gblk V c 3 t)
  Φ _ := Pipeline.scopedRest (Ix := Unit) (Name := ℕ) (U := UU) (Lvl := ℕ) (Val := Elt F) spec0 c
  q _ := fullShare
  owed _ := 0

/-- The proof data of the fast call entered at `V`. -/
def fdat (c : Dev nD) : Dat τ (Elt F) Unit ℕ UU ℕ cfg1 c where
  A w := V c (Pipeline.arrRef spec1 w)
  after w t := match w with
    | ⟨0, _⟩ => fblk V c 0 t
    | ⟨1, _⟩ => fblk V c 1 t
    | ⟨2, _⟩ => fblk V c 2 t
    | ⟨3, _⟩ => fastOut c t (fblk V c 0 t) (fblk V c 1 t) (fblk V c 2 t)
  Φ _ := Pipeline.scopedRest (Ix := Unit) (Name := ℕ) (U := UU) (Lvl := ℕ) (Val := Elt F) spec1 c
  q _ := fullShare
  owed _ := 0

theorem gA (c : Dev nD) (w : Fin cfg0.W) : (gdat V c).A w = V c (Pipeline.arrRef spec0 w) := by dsimp only [gdat]
theorem gAfter0 (c : Dev nD) (t : Fin cfg0.N) : (gdat V c).after 0 t = gblk V c 0 t := by dsimp only [gdat]
theorem gAfter1 (c : Dev nD) (t : Fin cfg0.N) : (gdat V c).after 1 t = gblk V c 1 t := by dsimp only [gdat]
theorem gAfter2 (c : Dev nD) (t : Fin cfg0.N) : (gdat V c).after 2 t = gblk V c 2 t := by dsimp only [gdat]
theorem gAfter3 (c : Dev nD) (t : Fin cfg0.N) : (gdat V c).after 3 t = gblk V c 3 t := by dsimp only [gdat]
theorem gAfter4 (c : Dev nD) (t : Fin cfg0.N) :
    (gdat V c).after 4 t = genOut c t (gblk V c 0 t) (gblk V c 1 t) (gblk V c 2 t) (gblk V c 3 t) := by dsimp only [gdat]
theorem fA (c : Dev nD) (w : Fin cfg1.W) : (fdat V c).A w = V c (Pipeline.arrRef spec1 w) := by dsimp only [fdat]
theorem fAfter0 (c : Dev nD) (t : Fin cfg1.N) : (fdat V c).after 0 t = fblk V c 0 t := by dsimp only [fdat]
theorem fAfter1 (c : Dev nD) (t : Fin cfg1.N) : (fdat V c).after 1 t = fblk V c 1 t := by dsimp only [fdat]
theorem fAfter2 (c : Dev nD) (t : Fin cfg1.N) : (fdat V c).after 2 t = fblk V c 2 t := by dsimp only [fdat]
theorem fAfter3 (c : Dev nD) (t : Fin cfg1.N) :
    (fdat V c).after 3 t = fastOut c t (fblk V c 0 t) (fblk V c 1 t) (fblk V c 2 t) := by dsimp only [fdat]

theorem gBefore0 (c : Dev nD) (t : Fin cfg0.N) (d) : (gdat V c).before 0 t d = gblk V c 0 t :=
  ((gdat V c).before_in_eq_fetched 0 rfl (fun _ => rfl) (fun _ _ _ => rfl) (fun t => by rw [gAfter0]; unfold Dat.blockOf gblk; rw [gA]; try rfl) t d).trans
    (by unfold Dat.fetched Dat.blockOf gblk; rw [gA]; try rfl)
theorem gBefore1 (c : Dev nD) (t : Fin cfg0.N) (d) : (gdat V c).before 1 t d = gblk V c 1 t :=
  ((gdat V c).before_in_eq_fetched 1 rfl (fun _ => rfl) (fun _ _ _ => rfl) (fun t => by rw [gAfter1]; unfold Dat.blockOf gblk; rw [gA]; try rfl) t d).trans
    (by unfold Dat.fetched Dat.blockOf gblk; rw [gA]; try rfl)
theorem gBefore2 (c : Dev nD) (t : Fin cfg0.N) (d) : (gdat V c).before 2 t d = gblk V c 2 t :=
  ((gdat V c).before_in_eq_fetched 2 rfl (fun _ => rfl) (fun _ _ _ => rfl) (fun t => by rw [gAfter2]; unfold Dat.blockOf gblk; rw [gA]; try rfl) t d).trans
    (by unfold Dat.fetched Dat.blockOf gblk; rw [gA]; try rfl)
theorem gBefore3 (c : Dev nD) (t : Fin cfg0.N) (d) : (gdat V c).before 3 t d = gblk V c 3 t :=
  ((gdat V c).before_in_eq_fetched 3 rfl (fun _ => rfl) (fun _ _ _ => rfl) (fun t => by rw [gAfter3]; unfold Dat.blockOf gblk; rw [gA]; try rfl) t d).trans
    (by unfold Dat.fetched Dat.blockOf gblk; rw [gA]; try rfl)
theorem fBefore0 (c : Dev nD) (t : Fin cfg1.N) (d) : (fdat V c).before 0 t d = fblk V c 0 t :=
  ((fdat V c).before_in_eq_fetched 0 rfl (fun _ => rfl) (fun _ _ _ => rfl) (fun t => by rw [fAfter0]; unfold Dat.blockOf fblk; rw [fA]; try rfl) t d).trans
    (by unfold Dat.fetched Dat.blockOf fblk; rw [fA]; try rfl)
theorem fBefore1 (c : Dev nD) (t : Fin cfg1.N) (d) : (fdat V c).before 1 t d = fblk V c 1 t :=
  ((fdat V c).before_in_eq_fetched 1 rfl (fun _ => rfl) (fun _ _ _ => rfl) (fun t => by rw [fAfter1]; unfold Dat.blockOf fblk; rw [fA]; try rfl) t d).trans
    (by unfold Dat.fetched Dat.blockOf fblk; rw [fA]; try rfl)
theorem fBefore2 (c : Dev nD) (t : Fin cfg1.N) (d) : (fdat V c).before 2 t d = fblk V c 2 t :=
  ((fdat V c).before_in_eq_fetched 2 rfl (fun _ => rfl) (fun _ _ _ => rfl) (fun t => by rw [fAfter2]; unfold Dat.blockOf fblk; rw [fA]; try rfl) t d).trans
    (by unfold Dat.fetched Dat.blockOf fblk; rw [fA]; try rfl)

/-! ## The bodies' obligations -/

/-- What the general body is called with at point `t`, window by window, and what it returns. -/
def gPre (c : Dev nD) (t : Fin cfg0.N) : sProp 𝕄 :=
  iprop((gdat V c).Φ t.castSucc ∗ (gdat V c).owesAt () t.castSucc
    ∗ (∃ d, owns (c : Thread nD τ) (gm0 t) fullShare ((gdat V c).before 0 t d))
    ∗ (∃ d, owns (c : Thread nD τ) (gm1 t) fullShare ((gdat V c).before 1 t d))
    ∗ (∃ d, owns (c : Thread nD τ) (gm2 t) fullShare ((gdat V c).before 2 t d))
    ∗ (∃ d, owns (c : Thread nD τ) (gm3 t) fullShare ((gdat V c).before 3 t d))
    ∗ (∃ d, owns (c : Thread nD τ) (gm4 t) fullShare ((gdat V c).before 4 t d)))
def gPost (c : Dev nD) (t : Fin cfg0.N) : sProp 𝕄 :=
  iprop((gdat V c).Φ t.succ ∗ (gdat V c).owesAt () t.succ
    ∗ owns (c : Thread nD τ) (gm0 t) fullShare ((gdat V c).after 0 t)
    ∗ owns (c : Thread nD τ) (gm1 t) fullShare ((gdat V c).after 1 t)
    ∗ owns (c : Thread nD τ) (gm2 t) fullShare ((gdat V c).after 2 t)
    ∗ owns (c : Thread nD τ) (gm3 t) fullShare ((gdat V c).after 3 t)
    ∗ owns (c : Thread nD τ) (gm4 t) fullShare ((gdat V c).after 4 t))

/-- The general body at any point: its run, the invariant and the debts passing through. -/
theorem gSound (c : Dev nD) (t : Fin cfg0.N) :
    gPre V c t ⊢ wp frame (wpE (defs₀ (F := F)) Variants.none c none) Set.univ (bodyAt0 t) (fun _ => gPost V c t) := by
  unfold gPre gPost bodyAt0
  simp only [gBefore0, gBefore1, gBefore2, gBefore3]
  rw [show (gdat V c).Φ t.succ = (gdat V c).Φ t.castSucc from rfl,
    show (gdat V c).owesAt () t.succ = (gdat V c).owesAt () t.castSucc from rfl, gAfter0, gAfter1, gAfter2, gAfter3, gAfter4]
  unfold genOut
  iintro ⟨HΦ, Ho, ⟨%d0, I0⟩, ⟨%d1, I1⟩, ⟨%d2, I2⟩, ⟨%d3, I3⟩, ⟨%d4, O⟩⟩
  iapply ((genRun c (grid0.coords t) _ _ _ _ _ _ _ _ _ _ (gblk V c 0 t) (gblk V c 1 t) (gblk V c 2 t) (gblk V c 3 t)).2 Set.univ _)
  isplitl [I0]; · iexact I0
  isplitl [I1]; · iexact I1
  isplitl [I2]; · iexact I2
  isplitl [I3]; · iexact I3
  isplitl [O]; · iexists _; iexact O
  iintro ⟨I0, I1, I2, I3, ⟨%e, O⟩⟩
  isplitl [HΦ]; · iexact HΦ
  isplitl [Ho]; · iexact Ho
  isplitl [I0]; · iexact I0
  isplitl [I1]; · iexact I1
  isplitl [I2]; · iexact I2
  isplitl [I3]; · iexact I3
  unfold owns; iexists _; isplitr
  swap; · iexact O
  ipureintro; exact View.read_writes_of_cover _ _ _ _ _ (genCover c _ _ _ _ _ _ _ _ _ _ _ _ _ _ _)

/-- What the fast body is called with at point `t`, window by window, and what it returns. -/
def fPre (c : Dev nD) (t : Fin cfg1.N) : sProp 𝕄 :=
  iprop((fdat V c).Φ t.castSucc ∗ (fdat V c).owesAt () t.castSucc
    ∗ (∃ d, owns (c : Thread nD τ) (fm0 t) fullShare ((fdat V c).before 0 t d))
    ∗ (∃ d, owns (c : Thread nD τ) (fm1 t) fullShare ((fdat V c).before 1 t d))
    ∗ (∃ d, owns (c : Thread nD τ) (fm2 t) fullShare ((fdat V c).before 2 t d))
    ∗ (∃ d, owns (c : Thread nD τ) (fm3 t) fullShare ((fdat V c).before 3 t d)))
def fPost (c : Dev nD) (t : Fin cfg1.N) : sProp 𝕄 :=
  iprop((fdat V c).Φ t.succ ∗ (fdat V c).owesAt () t.succ
    ∗ owns (c : Thread nD τ) (fm0 t) fullShare ((fdat V c).after 0 t)
    ∗ owns (c : Thread nD τ) (fm1 t) fullShare ((fdat V c).after 1 t)
    ∗ owns (c : Thread nD τ) (fm2 t) fullShare ((fdat V c).after 2 t)
    ∗ owns (c : Thread nD τ) (fm3 t) fullShare ((fdat V c).after 3 t))

/-- The fast body at any point: its run, the invariant and the debts passing through. -/
theorem fSound (c : Dev nD) (t : Fin cfg1.N) :
    fPre V c t ⊢ wp frame (wpE (defs₀ (F := F)) Variants.none c none) Set.univ (bodyAt1 t) (fun _ => fPost V c t) := by
  unfold fPre fPost bodyAt1
  simp only [fBefore0, fBefore1, fBefore2]
  rw [show (fdat V c).Φ t.succ = (fdat V c).Φ t.castSucc from rfl,
    show (fdat V c).owesAt () t.succ = (fdat V c).owesAt () t.castSucc from rfl, fAfter0, fAfter1, fAfter2, fAfter3]
  unfold fastOut
  iintro ⟨HΦ, Ho, ⟨%d0, I0⟩, ⟨%d1, I1⟩, ⟨%d2, I2⟩, ⟨%d3, O⟩⟩
  iapply ((fastRun c (grid1.coords t) _ _ _ _ _ _ _ _ (fblk V c 0 t) (fblk V c 1 t) (fblk V c 2 t)).2 Set.univ _)
  isplitl [I0]; · iexact I0
  isplitl [I1]; · iexact I1
  isplitl [I2]; · iexact I2
  isplitl [O]; · iexists _; iexact O
  iintro ⟨I0, I1, I2, ⟨%e, O⟩⟩
  isplitl [HΦ]; · iexact HΦ
  isplitl [Ho]; · iexact Ho
  isplitl [I0]; · iexact I0
  isplitl [I1]; · iexact I1
  isplitl [I2]; · iexact I2
  unfold owns; iexists _; isplitr
  swap; · iexact O
  ipureintro; exact View.read_writes_of_cover _ _ _ _ _ (fastCover c _ _ _ _ _ _ _ _ _ _ _ _)

/-- The body table's rows at a point's slots. -/
theorem gRow (t : Fin cfg0.N) : defs₀ (F := F) .tc cfg0.body (cfg0.bodyArgs t (cfg0.slots t)) = bodyAt0 t := by
  unfold defs₀; rw [Defs.onTc_tc]
theorem fRow (t : Fin cfg1.N) : defs₀ (F := F) .tc cfg1.body (cfg1.bodyArgs t (cfg1.slots t)) = bodyAt1 t := by
  unfold defs₀; rw [Defs.onTc_tc]

theorem gOblig (c : Dev nD) : BodyObligation (gdat (F := F) V c) (defs₀ (F := F)) Variants.none () Set.univ := fun t => by
  rw [bigSep_W0, bigSep_W0, gRow]
  exact triple_restated (gSound V c t) rfl .rfl fun _ => .rfl
theorem fOblig (c : Dev nD) : BodyObligation (fdat (F := F) V c) (defs₀ (F := F)) Variants.none () Set.univ := fun t => by
  rw [bigSep_W1, bigSep_W1, fRow]
  exact triple_restated (fSound V c t) rfl .rfl fun _ => .rfl

/-! ## The calls over the thread state -/

/-- Proof data for a call that an entry does not run: anything. -/
def noDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- The families of proof data of the two entries: the general call's, and the fast call's. -/
def gdats : (p : Fin 2) → (c : Dev nD) → Dat τ (Elt F) Unit ℕ UU ℕ (Pipeline.pin (pcfgs (F := F)) adm p) c
  | ⟨0, _⟩ => fun c => gdat V c
  | ⟨1, _⟩ => fun c => noDat c
def fdats : (p : Fin 2) → (c : Dev nD) → Dat τ (Elt F) Unit ℕ UU ℕ (Pipeline.pin (pcfgs (F := F)) adm p) c
  | ⟨0, _⟩ => fun c => noDat c
  | ⟨1, _⟩ => fun c => fdat V c

/-- The outputs' arrays after the calls: every grid point's block written back. -/
def gArr (c : Dev nD) : Buf (Elt F) ((c : Thread nD τ).loc main_case0b0_v91) := (gdat V c).arrAt 4 cfg0.N
def fArr (c : Dev nD) : Buf (Elt F) ((c : Thread nD τ).loc main_case0b1_v85) := (fdat V c).arrAt 3 cfg1.N

variable (Vp : (c : Dev nD) → (b : Ref sig .tc) → Buf (Elt F) ((c : Thread nD τ).loc b))

-- the entry and exit lemmas are stated at the pinned configuration and unify with it only when plain definitions in a
-- type may be unfolded
set_option backward.isDefEq.respectTransparency.types false in
/-- The general call from `V`, left at any `Vp` that has its output at `gArr` and is `V` elsewhere. -/
def gReg (R : Dev nD → sProp 𝕄) (hout : ∀ c, Vp c main_case0b0_v91 = gArr V c)
    (hne : ∀ c (b : Ref sig .tc), b ≠ main_case0b0_v91 → Vp c b = V c b) :
    Pipeline.RegionSeg (pcfgs (F := F)) adm (gdats V) () defs₀ 𝒱₀ L lv 0 where
  win := (launch0).win.to₀
  block_pos := (launch0).block_pos
  stage_whole := (launch0).stage_whole
  K := PEmpty
  osem k := k.elim
  ho := Pipeline.OwnSemFacts.none _
  hbody c := (gOblig V c).loose
  hwaits := Pipeline.hwaits_of_owed_zero _ _ _ _ L lv 0 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs (p := 0) (pcfgs (F := F)) adm (gdats V) (launch0).win (launch0).arr_whole c
      ((gdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (gdats V 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none,
      show (gdats V 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win
      (launch0).arr_whole c (gdats V) ((gdats V 0 c).share_full fun _ => rfl) (V c) (Vp c) ((gdats V 0 c).arrAt · cfg0.N)
      (fun w => by
        fin_cases w
        · exact ((gdats V 0 c).arrAt_in 0 rfl _).trans (hne c main_v69 (by decide)).symm
        · exact ((gdats V 0 c).arrAt_in 1 rfl _).trans (hne c main_case0b0_v90 (by decide)).symm
        · exact ((gdats V 0 c).arrAt_in 2 rfl _).trans (hne c main_v26 (by decide)).symm
        · exact ((gdats V 0 c).arrAt_in 3 rfl _).trans (hne c main_v35 (by decide)).symm
        · exact (hout c).symm)
      (fun b hb => hne c b fun h => hb (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

set_option backward.isDefEq.respectTransparency.types false in
/-- The fast call from `V`, left at any `Vp` that has its output at `fArr` and is `V` elsewhere. -/
def fReg (R : Dev nD → sProp 𝕄) (hout : ∀ c, Vp c main_case0b1_v85 = fArr V c)
    (hne : ∀ c (b : Ref sig .tc), b ≠ main_case0b1_v85 → Vp c b = V c b) :
    Pipeline.RegionSeg (pcfgs (F := F)) adm (fdats V) () defs₀ 𝒱₀ L lv 1 where
  win := (launch1).win.to₀
  block_pos := (launch1).block_pos
  stage_whole := (launch1).stage_whole
  K := PEmpty
  osem k := k.elim
  ho := Pipeline.OwnSemFacts.none _
  hbody c := (fOblig V c).loose
  hwaits := Pipeline.hwaits_of_owed_zero _ _ _ _ L lv 1 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec1 c (V c) ∗ R c)
  hentry c := by
    rw [Pipeline.ownSems0_none]
    have hsplit := Pipeline.arrays_of_unscopedBufs (p := 1) (pcfgs (F := F)) adm (fdats V) (launch1).win (launch1).arr_whole c
      ((fdats V 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (fdats V 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none,
      show (fdats V 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1).win
      (launch1).arr_whole c (fdats V) ((fdats V 1 c).share_full fun _ => rfl) (V c) (Vp c) ((fdats V 1 c).arrAt · cfg1.N)
      (fun w => by
        fin_cases w
        · exact ((fdats V 1 c).arrAt_in 0 rfl _).trans (hne c main_v69 (by decide)).symm
        · exact ((fdats V 1 c).arrAt_in 1 rfl _).trans (hne c main_arg1 (by decide)).symm
        · exact ((fdats V 1 c).arrAt_in 2 rfl _).trans (hne c main_v64 (by decide)).symm
        · exact (hout c).symm)
      (fun b hb => hne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Run

end
-- ==== Proof.KernelIdeal.Main.lean ====
/-
  The whole run: @main is nine stretches of host operations, the read of the word "the matrix is uniform", the branch on it
  (the general call after its codes are computed, or the fast call; either is copied into the branch's result), and the last
  stretch. Every final state holds every unscoped buffer at the contents computed here, with every semaphore at zero.
-/
module

public import proofs.«01_k».proof.Proof.KernelIdeal.Calls
public import Idealize.ShloMosaic.Lib.Pipeline.RegionsCase
public import Idealize.ShloMosaic.Lib.HostLoop.Plain
public import Idealize.ShloMosaic.Lib.HostLoop.Lifted
public import Idealize.ShloMosaic.Lib.Pipeline.Launch

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after held)
open Idealize.ShloMosaic.Pipeline (CSeg CaseSeg Ticket)
open Cert.KernelIdeal Cert.KernelIdeal.Gen

variable {F : FTy → Type} [FloatOps F]

local notation "𝕄" => MT nD τ sig Unit (Elt F) ℕ UU ℕ

/-- The labels of @main with room for host loops, of which it has none. -/
abbrev Lab (F : FTy → Type) [FloatOps F] := HostLoop.Sig (Pipeline.Sig Λ₀ (Fin 2) fun p => (pcfgs (F := F) p).Adm) 0
/-- The bodies of the host loops: none. -/
abbrev loops : Fin 0 → Prog (TpuEff nD τ sig (Elt F) (Lab F) .tc) PUnit := fun i => i.elim0

/-! ## The branch's operations, as printed -/

/-- The operation whose element is the word that the branch takes. -/
abbrev rdOp : HloOp τ sig (Elt F) :=
  StableHlo.unary main_v67 main_v70 ((extui 32 · natLt_1_32) : (⟨S_, .i1⟩ : BufTy).Contents (Elt F) → (⟨S_, .i32⟩ : BufTy).Contents (Elt F))

/-- The general arm's operations before its call: the codes. -/
abbrev codeOps : List (HloOp τ sig (Elt F)) :=
  [ StableHlo.nullary main_case0b0_c_26 (constantI S_ 32 0#32),
    StableHlo.unary main_case0b0_c_26 main_case0b0_v85 (broadcastInDim S4096x1 ![] bcast_S_S4096x1 : (⟨S_, .i32⟩ : BufTy).Contents (Elt F) → (⟨S4096x1, .i32⟩ : BufTy).Contents (Elt F)),
    StableHlo.unary main_arg1 main_case0b0_v86 ((extractStridedSlice S4096x511 ![0, 0] · slices_S4096x512_S4096x511_0_0) : (⟨S4096x512, .i32⟩ : BufTy).Contents (Elt F) → (⟨S4096x511, .i32⟩ : BufTy).Contents (Elt F)),
    StableHlo.binary main_case0b0_v85 main_case0b0_v86 main_case0b0_v87 ((fun a b => concatenate S4096x512 1 [⟨S4096x1, a⟩, ⟨S4096x511, b⟩] concatenates_S4096x1_S4096x511_S4096x512_d1) : (⟨S4096x1, .i32⟩ : BufTy).Contents (Elt F) → (⟨S4096x511, .i32⟩ : BufTy).Contents (Elt F) → (⟨S4096x512, .i32⟩ : BufTy).Contents (Elt F)),
    StableHlo.nullary main_case0b0_c_27 (constantI S_ 32 4#32),
    StableHlo.unary main_case0b0_c_27 main_case0b0_v88 (broadcastInDim S4096x512 ![] bcast_S_S4096x512 : (⟨S_, .i32⟩ : BufTy).Contents (Elt F) → (⟨S4096x512, .i32⟩ : BufTy).Contents (Elt F)),
    StableHlo.binary main_case0b0_v87 main_case0b0_v88 main_case0b0_v89 (muli : (⟨S4096x512, .i32⟩ : BufTy).Contents (Elt F) → (⟨S4096x512, .i32⟩ : BufTy).Contents (Elt F) → (⟨S4096x512, .i32⟩ : BufTy).Contents (Elt F)),
    StableHlo.binary main_case0b0_v89 main_arg1 main_case0b0_v90 (addi : (⟨S4096x512, .i32⟩ : BufTy).Contents (Elt F) → (⟨S4096x512, .i32⟩ : BufTy).Contents (Elt F) → (⟨S4096x512, .i32⟩ : BufTy).Contents (Elt F)) ]
/-- The copies of the calls' outputs into the branch's result. -/
abbrev gCopy : HloOp τ sig (Elt F) := StableHlo.unary main_case0b0_v91 main_v71 id
abbrev fCopy : HloOp τ sig (Elt F) := StableHlo.unary main_case0b1_v85 main_v71 id

/-- The arms as printed. -/
abbrev armP : Fin 2 → Prog (TpuEff nD τ sig (Elt F) (Pipeline.Sig Λ₀ (Fin 2) fun p => (pcfgs (F := F) p).Adm) .tc) PUnit
  | 0 => do
      hlo rfl (StableHlo.nullary main_case0b0_c_26 (constantI S_ 32 0#32)) (fun _ => .ret ⟨⟩)
      hlo rfl (StableHlo.unary main_case0b0_c_26 main_case0b0_v85 (broadcastInDim S4096x1 ![] bcast_S_S4096x1 : (⟨S_, .i32⟩ : BufTy).Contents (Elt F) → (⟨S4096x1, .i32⟩ : BufTy).Contents (Elt F))) (fun _ => .ret ⟨⟩)
      hlo rfl (StableHlo.unary main_arg1 main_case0b0_v86 ((extractStridedSlice S4096x511 ![0, 0] · slices_S4096x512_S4096x511_0_0) : (⟨S4096x512, .i32⟩ : BufTy).Contents (Elt F) → (⟨S4096x511, .i32⟩ : BufTy).Contents (Elt F))) (fun _ => .ret ⟨⟩)
      hlo rfl (StableHlo.binary main_case0b0_v85 main_case0b0_v86 main_case0b0_v87 ((fun a b => concatenate S4096x512 1 [⟨S4096x1, a⟩, ⟨S4096x511, b⟩] concatenates_S4096x1_S4096x511_S4096x512_d1) : (⟨S4096x1, .i32⟩ : BufTy).Contents (Elt F) → (⟨S4096x511, .i32⟩ : BufTy).Contents (Elt F) → (⟨S4096x512, .i32⟩ : BufTy).Contents (Elt F))) (fun _ => .ret ⟨⟩)
      hlo rfl (StableHlo.nullary main_case0b0_c_27 (constantI S_ 32 4#32)) (fun _ => .ret ⟨⟩)
      hlo rfl (StableHlo.unary main_case0b0_c_27 main_case0b0_v88 (broadcastInDim S4096x512 ![] bcast_S_S4096x512 : (⟨S_, .i32⟩ : BufTy).Contents (Elt F) → (⟨S4096x512, .i32⟩ : BufTy).Contents (Elt F))) (fun _ => .ret ⟨⟩)
      hlo rfl (StableHlo.binary main_case0b0_v87 main_case0b0_v88 main_case0b0_v89 (muli : (⟨S4096x512, .i32⟩ : BufTy).Contents (Elt F) → (⟨S4096x512, .i32⟩ : BufTy).Contents (Elt F) → (⟨S4096x512, .i32⟩ : BufTy).Contents (Elt F))) (fun _ => .ret ⟨⟩)
      hlo rfl (StableHlo.binary main_case0b0_v89 main_arg1 main_case0b0_v90 (addi : (⟨S4096x512, .i32⟩ : BufTy).Contents (Elt F) → (⟨S4096x512, .i32⟩ : BufTy).Contents (Elt F) → (⟨S4096x512, .i32⟩ : BufTy).Contents (Elt F))) (fun _ => .ret ⟨⟩)
      Prog.lift (.customCall (Pipeline.entry 0) ())
      hlo rfl (StableHlo.unary main_case0b0_v91 main_v71 id) (fun _ => .ret ⟨⟩)
      pure ⟨⟩
  | 1 => do
      Prog.lift (.customCall (Pipeline.entry 1) ())
      hlo rfl (StableHlo.unary main_case0b1_v85 main_v71 id) (fun _ => .ret ⟨⟩)
      pure ⟨⟩
  | ⟨_ + 2, h⟩ => absurd h (Nat.not_lt.2 (Nat.le_add_left _ _))

/-! ## The contents at each step -/

section Fold

variable (m : (ℓ : Loc nD τ sig) → Buf (Elt F) ℓ)

/-- At launch; after each of the nine stretches; after the read. -/
def W0 (c : Dev nD) : Valuation τ sig (Elt F) := fun b => m (c, b)
def W1 (c : Dev nD) : Valuation τ sig (Elt F) := after hostOps0 (W0 m c)
def W2 (c : Dev nD) : Valuation τ sig (Elt F) := after hostOps0_1 (W1 m c)
def W3 (c : Dev nD) : Valuation τ sig (Elt F) := after hostOps0_2 (W2 m c)
def W4 (c : Dev nD) : Valuation τ sig (Elt F) := after hostOps0_3 (W3 m c)
def W5 (c : Dev nD) : Valuation τ sig (Elt F) := after hostOps0_4 (W4 m c)
def W6 (c : Dev nD) : Valuation τ sig (Elt F) := after hostOps0_5 (W5 m c)
def W7 (c : Dev nD) : Valuation τ sig (Elt F) := after hostOps0_6 (W6 m c)
def W8 (c : Dev nD) : Valuation τ sig (Elt F) := after hostOps0_7 (W7 m c)
def W9 (c : Dev nD) : Valuation τ sig (Elt F) := after hostOps0_8 (W8 m c)
def Wrd (c : Dev nD) : Valuation τ sig (Elt F) := after [rdOp] (W9 m c)
/-- The word that the branch takes. -/
def word (c : Dev nD) : BitVec 32 := Wrd m c main_v70 HostLoop.idx0
/-- In the general arm: after the codes; after the call; after the copy. -/
def Wg0 (c : Dev nD) : Valuation τ sig (Elt F) := after codeOps (Wrd m c)
def Wg1 (c : Dev nD) : Valuation τ sig (Elt F) :=
  Function.update (Wg0 m c) (Proc.devRef .tc main_case0b0_v91) (gArr (fun c b => Wg0 m c b) c)
def Wg2 (c : Dev nD) : Valuation τ sig (Elt F) := after [gCopy] (Wg1 m c)
/-- In the fast arm: after the call; after the copy. -/
def Wf1 (c : Dev nD) : Valuation τ sig (Elt F) :=
  Function.update (Wrd m c) (Proc.devRef .tc main_case0b1_v85) (fArr (fun c b => Wrd m c b) c)
def Wf2 (c : Dev nD) : Valuation τ sig (Elt F) := after [fCopy] (Wf1 m c)
/-- After arm `b`; after the branch; at the end. -/
def Warm : Fin 2 → Dev nD → Valuation τ sig (Elt F)
  | 0 => Wg2 m
  | 1 => Wf2 m
def Wcase (c : Dev nD) : Valuation τ sig (Elt F) := Warm m (HostLoop.branch (word m c) 1) c
def Wend (c : Dev nD) : Valuation τ sig (Elt F) := after hostOps0_9 (Wcase m c)

theorem Wg1_out (c : Dev nD) : Wg1 m c main_case0b0_v91 = gArr (fun c b => Wg0 m c b) c := Function.update_self ..
theorem Wg1_ne (c : Dev nD) (b : Ref sig .tc) (h : b ≠ main_case0b0_v91) : Wg1 m c b = Wg0 m c b :=
  Function.update_of_ne (StableHlo.devRef_ne_of_ne h) ..
theorem Wf1_out (c : Dev nD) : Wf1 m c main_case0b1_v85 = fArr (fun c b => Wrd m c b) c := Function.update_self ..
theorem Wf1_ne (c : Dev nD) (b : Ref sig .tc) (h : b ≠ main_case0b1_v85) : Wf1 m c b = Wrd m c b :=
  Function.update_of_ne (StableHlo.devRef_ne_of_ne h) ..

end Fold

/-! ## Side conditions of the stretches -/

theorem hostOps0_nofresh : (hostOps0 : List (HloOp τ sig (Elt F))).Forall fun op => op.fresh = ∅ := by
  simp only [List.Forall]; repeat' constructor
theorem hostOps0_1_nofresh : (hostOps0_1 : List (HloOp τ sig (Elt F))).Forall fun op => op.fresh = ∅ := by
  simp only [List.Forall]; repeat' constructor
theorem hostOps0_2_nofresh : (hostOps0_2 : List (HloOp τ sig (Elt F))).Forall fun op => op.fresh = ∅ := by
  simp only [List.Forall]; repeat' constructor
theorem hostOps0_3_nofresh : (hostOps0_3 : List (HloOp τ sig (Elt F))).Forall fun op => op.fresh = ∅ := by
  simp only [List.Forall]; repeat' constructor
theorem hostOps0_4_nofresh : (hostOps0_4 : List (HloOp τ sig (Elt F))).Forall fun op => op.fresh = ∅ := by
  simp only [List.Forall]; repeat' constructor
theorem hostOps0_5_nofresh : (hostOps0_5 : List (HloOp τ sig (Elt F))).Forall fun op => op.fresh = ∅ := by
  simp only [List.Forall]; repeat' constructor
theorem hostOps0_6_nofresh : (hostOps0_6 : List (HloOp τ sig (Elt F))).Forall fun op => op.fresh = ∅ := by
  simp only [List.Forall]; repeat' constructor
theorem hostOps0_7_nofresh : (hostOps0_7 : List (HloOp τ sig (Elt F))).Forall fun op => op.fresh = ∅ := by
  simp only [List.Forall]; repeat' constructor
theorem hostOps0_8_nofresh : (hostOps0_8 : List (HloOp τ sig (Elt F))).Forall fun op => op.fresh = ∅ := by
  simp only [List.Forall]; repeat' constructor
theorem hostOps0_9_nofresh : (hostOps0_9 : List (HloOp τ sig (Elt F))).Forall fun op => op.fresh = ∅ := by
  simp only [List.Forall]; repeat' constructor
theorem within {ops : List (HloOp τ sig (Elt F))} (h : ops.Forall fun op => op.bufs ⊆ StableHlo.tcRefs τ sig) :
    ∀ op ∈ ops, op.bufs ⊆ Pipeline.ucRefs τ sig :=
  fun op ho => Pipeline.sub_ucRefs op ((List.forall_iff_forall_mem.mp h) op ho)
theorem codeOps_sub : (codeOps : List (HloOp τ sig (Elt F))).Forall fun op => op.bufs ⊆ StableHlo.tcRefs τ sig := by
  simp only [List.Forall]
  exact ⟨StableHlo.nullary_bufs_sub .., StableHlo.unary_bufs_sub .., StableHlo.unary_bufs_sub .., StableHlo.binary_bufs_sub ..,
    StableHlo.nullary_bufs_sub .., StableHlo.unary_bufs_sub .., StableHlo.binary_bufs_sub .., StableHlo.binary_bufs_sub ..⟩
theorem codeOps_nofresh : (codeOps : List (HloOp τ sig (Elt F))).Forall fun op => op.fresh = ∅ := by
  simp only [List.Forall]; repeat' constructor
theorem gCopy_sub : ([gCopy] : List (HloOp τ sig (Elt F))).Forall fun op => op.bufs ⊆ StableHlo.tcRefs τ sig :=
  StableHlo.unary_bufs_sub ..
theorem fCopy_sub : ([fCopy] : List (HloOp τ sig (Elt F))).Forall fun op => op.bufs ⊆ StableHlo.tcRefs τ sig :=
  StableHlo.unary_bufs_sub ..

/-! ## The thread state, the tickets and the branch -/

/-- The core's debts: none. -/
abbrev Rw (c : Dev nD) : sProp 𝕄 := iprop(∃ W, owes (c : Thread nD τ) (0 : CellTallies nD τ sig Unit) W)
/-- Every unscoped buffer at `W`, a fact `φ`, and the debts. -/
abbrev st (W : Dev nD → Valuation τ sig (Elt F)) (c : Dev nD) : sProp 𝕄 :=
  iprop(held (c : Thread nD τ) (Pipeline.ucRefs τ sig) (W c) ∗ Rw c)
abbrev Rφ (φ : Dev nD → Prop) (c : Dev nD) : sProp 𝕄 := iprop(⌜φ c⌝ ∗ Rw c)
abbrev stφ (φ : Dev nD → Prop) (W : Dev nD → Valuation τ sig (Elt F)) (c : Dev nD) : sProp 𝕄 :=
  iprop(held (c : Thread nD τ) (Pipeline.ucRefs τ sig) (W c) ∗ Rφ φ c)

/-- The state at a call's ends, in the call's words. -/
theorem stφ_eq (φ : Dev nD → Prop) (W : Dev nD → Valuation τ sig (Elt F)) (c : Dev nD) :
    stφ φ W c = iprop(unscopedBufs c (fun b => W c b) ∗ ⌜φ c⌝ ∗ Rw c) := by
  rw [Pipeline.unscopedBufs_held]

variable (m : (ℓ : Loc nD τ sig) → Buf (Elt F) ℓ) (ρ : Dev nD → PrngReg)

/-- The two entries: the general call after the codes, the fast call after the read. -/
def tk : Fin 2 → Ticket (Ix := Unit) (Name := ℕ) (U := UU) (Lvl := ℕ) (nD := nD) (τ := τ) (pcfgs (F := F)) adm
  | 0 => { p := 0, pdats := gdats (fun c b => Wg0 m c b), EP := embAt 0 }
  | 1 => { p := 1, pdats := fdats (fun c b => Wrd m c b), EP := embAt 1 }

/-- The branch took arm `b`. -/
abbrev took (b : Fin 2) (c : Dev nD) : Prop := b = HostLoop.branch (word m c) 1

/-- The general arm: the codes, the call, the copy; the fast arm: the call, the copy. -/
def gSegs : List (CSeg (pcfgs (F := F)) adm defs₀ 𝒱₀ L lv loops (tk m)) :=
  [ CSeg.ofOps _ _ _ _ _ _ _ _ (Pipeline.ucRefs τ sig) codeOps (within codeOps_sub) (List.forall_iff_forall_mem.mp codeOps_nofresh) (Wrd m) (Rφ (took m 0)),
    CSeg.region _ _ () cellOf_inj _ _ _ _ _ _ (0 : Fin 2)
      (gReg (fun c b => Wg0 m c b) (fun c b => Wg1 m c b) (fun c => iprop(⌜took m 0 c⌝)) (Wg1_out m) (Wg1_ne m)),
    CSeg.ofOps _ _ _ _ _ _ _ _ (Pipeline.ucRefs τ sig) [gCopy] (within gCopy_sub) (by intro op h; fin_cases h; rfl) (Wg1 m) (Rφ (took m 0)) ]
def fSegs : List (CSeg (pcfgs (F := F)) adm defs₀ 𝒱₀ L lv loops (tk m)) :=
  [ CSeg.region _ _ () cellOf_inj _ _ _ _ _ _ (1 : Fin 2)
      (fReg (fun c b => Wrd m c b) (fun c b => Wf1 m c b) (fun c => iprop(⌜took m 1 c⌝)) (Wf1_out m) (Wf1_ne m)),
    CSeg.ofOps _ _ _ _ _ _ _ _ (Pipeline.ucRefs τ sig) [fCopy] (within fCopy_sub) (by intro op h; fin_cases h; rfl) (Wf1 m) (Rφ (took m 1)) ]
/-- Arm `b`'s segments. -/
def armSegs : Fin 2 → List (CSeg (pcfgs (F := F)) adm defs₀ 𝒱₀ L lv loops (tk m))
  | 0 => gSegs m
  | 1 => fSegs m

theorem armChains (b : Fin 2) : CSeg.Chains (stφ (took m b) (Wrd m)) (armSegs m b) (stφ (took m b) (Warm m b)) := by
  fin_cases b
  · exact ⟨fun _ => .rfl, fun c => Entails.of_eq (stφ_eq (took m 0) (Wg0 m) c), fun c => Entails.of_eq (stφ_eq (took m 0) (Wg1 m) c).symm, fun _ => .rfl⟩
  · exact ⟨fun c => Entails.of_eq (stφ_eq (took m 1) (Wrd m) c), fun c => Entails.of_eq (stφ_eq (took m 1) (Wf1 m) c).symm, fun _ => .rfl⟩

/-- Each arm's program is its segments' programs in order. -/
theorem armProgs (b : Fin 2) : HostLoop.liftProg (L := 0) (armP (F := F) b) = CSeg.runL (armSegs m b) := by
  fin_cases b <;> chain_rfl

/-- A bound of host counts above every segment of the arms. -/
abbrev bnd : ℕ := max ((Pipeline.pin (pcfgs (F := F)) adm 0).tripCount + 1) ((Pipeline.pin (pcfgs (F := F)) adm 1).tripCount + 1)

theorem armM (b : Fin 2) : ∀ s ∈ armSegs m b, s.M ≤ bnd (F := F) := by
  intro s hs
  fin_cases b
  · cases hs with
    | head => exact Nat.zero_le _
    | tail _ hs => cases hs with
      | head => exact le_max_left _ _
      | tail _ hs => cases hs with
        | head => exact Nat.zero_le _
        | tail _ hs => cases hs
  · cases hs with
    | head => exact le_max_right _ _
    | tail _ hs => cases hs with
      | head => exact Nat.zero_le _
      | tail _ hs => cases hs

theorem armDisj (b : Fin 2) : (armSegs m b).Pairwise fun s s' => Disjoint s.T s'.T := by
  fin_cases b
  · refine List.pairwise_cons.mpr ⟨fun _ _ => Finset.disjoint_empty_left _, List.pairwise_cons.mpr ⟨fun s hs => ?_, List.pairwise_singleton ..⟩⟩
    obtain rfl := List.mem_singleton.mp hs
    exact Finset.disjoint_empty_right _
  · refine List.pairwise_cons.mpr ⟨fun s hs => ?_, List.pairwise_singleton ..⟩
    obtain rfl := List.mem_singleton.mp hs
    exact Finset.disjoint_empty_right _

/-- The read as printed, and the state between it and the arm. -/
abbrev rdProg : Prog (TpuEff nD τ sig (Elt F) (Lab F) .tc) (BitVec 32) := hlo rfl (rdOp (F := F)) (HostLoop.elt main_v70)
abbrev between (v : BitVec 32) (c : Dev nD) : sProp 𝕄 :=
  iprop(held (c : Thread nD τ) (Pipeline.ucRefs τ sig) (Wrd m c) ∗ ⌜v = word m c⌝ ∗ Rw c)
abbrev anyArm : Fin (1 + 1) → Prop := fun _ => True

set_option backward.isDefEq.respectTransparency.types false in
/-- The read: one operation, its result read for its element. -/
theorem readSpec (c : Dev nD) (bd : Option (Variants.lift 𝒱₀).V) :
    iprop(boundary (c : Thread nD τ) ∗ st (W9 m) c)
      ⊢ wp frame (wpE (HostLoop.defs loops (Pipeline.defs (pcfgs (F := F)) defs₀)) (Variants.lift 𝒱₀) (c : Thread nD τ) bd) Set.univ (rdProg (F := F))
          (fun v => iprop(⌜anyArm (HostLoop.branch v 1)⌝ ∗ boundary (c : Thread nD τ) ∗ between m v c)) := by
  unfold rdProg
  iintro ⟨Hb, Hh, HR⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold Wrd; rw [StableHlo.after_cons, StableHlo.after_nil]; iexact Hh
  isplitr; · ipureintro; rfl
  iexact HR

/-- A chain of thread states on one core, entered from a stronger state and left at a weaker one. -/
theorem chainsAt_wrap {tk : Fin 2 → Ticket (Ix := Unit) (Name := ℕ) (U := UU) (Lvl := ℕ) (nD := nD) (τ := τ) (pcfgs (F := F)) adm} (c : Dev nD) :
    ∀ (l : List (CSeg (pcfgs (F := F)) adm defs₀ 𝒱₀ L lv loops tk)) {A A' B B' : Dev nD → sProp 𝕄},
      CSeg.ChainsAt c A l B → (A' c ⊢ A c) → (B c ⊢ B' c) → CSeg.ChainsAt c A' l B'
  | [], _, _, _, _, h, ha, hb => ha.trans (h.trans hb)
  | _ :: l, _, _, _, _, ⟨h, hl⟩, ha, hb => ⟨ha.trans h, chainsAt_wrap c l hl .rfl hb⟩

/-- The branch's record. -/
def branchW : CaseSeg (pcfgs (F := F)) adm defs₀ 𝒱₀ L lv loops (tk m) :=
  { on := fun _ => True
    N := 1
    rd := rdProg
    br := fun b => HostLoop.liftProg (L := 0) (armP b)
    pre := st (W9 m)
    mid := between m
    post := st (Wcase m)
    live := anyArm
    hrd := fun c _ bd => readSpec m c bd
    segs := armSegs m
    hch := fun c _ v _ => by
      have hin : between m v c ⊢ stφ (took m (HostLoop.branch v 1)) (Wrd m) c := by
        iintro ⟨Hh, %hv, HR⟩
        isplitl [Hh]; · iexact Hh
        isplitr; · ipureintro; show HostLoop.branch v 1 = _; rw [hv]
        iexact HR
      have hout : stφ (took m (HostLoop.branch v 1)) (Warm m (HostLoop.branch v 1)) c ⊢ st (Wcase m) c := by
        iintro ⟨Hh, %hv, HR⟩
        isplitl [Hh]
        · unfold Wcase; rw [← (show HostLoop.branch v 1 = HostLoop.branch (word m c) 1 from hv)]; iexact Hh
        iexact HR
      exact chainsAt_wrap c (armSegs m (HostLoop.branch v 1)) ((armChains m (HostLoop.branch v 1)).onCore c) hin hout
    hbr := fun b _ => armProgs m b
    B := bnd (F := F)
    hM := fun b _ => armM m b
    T := Finset.univ
    hT := fun _ _ _ _ => Finset.subset_univ _
    hdisT := fun b _ => armDisj m b }

/-- @main's segments. -/
def segs : List (CSeg (pcfgs (F := F)) adm defs₀ 𝒱₀ L lv loops (tk m)) :=
  [ CSeg.ofOps _ _ _ _ _ _ _ _ (Pipeline.ucRefs τ sig) hostOps0 (within hostOps0_sub) (List.forall_iff_forall_mem.mp hostOps0_nofresh) (W0 m) Rw,
    CSeg.ofOps _ _ _ _ _ _ _ _ (Pipeline.ucRefs τ sig) hostOps0_1 (within hostOps0_1_sub) (List.forall_iff_forall_mem.mp hostOps0_1_nofresh) (W1 m) Rw,
    CSeg.ofOps _ _ _ _ _ _ _ _ (Pipeline.ucRefs τ sig) hostOps0_2 (within hostOps0_2_sub) (List.forall_iff_forall_mem.mp hostOps0_2_nofresh) (W2 m) Rw,
    CSeg.ofOps _ _ _ _ _ _ _ _ (Pipeline.ucRefs τ sig) hostOps0_3 (within hostOps0_3_sub) (List.forall_iff_forall_mem.mp hostOps0_3_nofresh) (W3 m) Rw,
    CSeg.ofOps _ _ _ _ _ _ _ _ (Pipeline.ucRefs τ sig) hostOps0_4 (within hostOps0_4_sub) (List.forall_iff_forall_mem.mp hostOps0_4_nofresh) (W4 m) Rw,
    CSeg.ofOps _ _ _ _ _ _ _ _ (Pipeline.ucRefs τ sig) hostOps0_5 (within hostOps0_5_sub) (List.forall_iff_forall_mem.mp hostOps0_5_nofresh) (W5 m) Rw,
    CSeg.ofOps _ _ _ _ _ _ _ _ (Pipeline.ucRefs τ sig) hostOps0_6 (within hostOps0_6_sub) (List.forall_iff_forall_mem.mp hostOps0_6_nofresh) (W6 m) Rw,
    CSeg.ofOps _ _ _ _ _ _ _ _ (Pipeline.ucRefs τ sig) hostOps0_7 (within hostOps0_7_sub) (List.forall_iff_forall_mem.mp hostOps0_7_nofresh) (W7 m) Rw,
    CSeg.ofOps _ _ _ _ _ _ _ _ (Pipeline.ucRefs τ sig) hostOps0_8 (within hostOps0_8_sub) (List.forall_iff_forall_mem.mp hostOps0_8_nofresh) (W8 m) Rw,
    CSeg.case _ _ _ _ _ _ _ _ (branchW m),
    CSeg.ofOps _ _ _ _ _ _ _ _ (Pipeline.ucRefs τ sig) hostOps0_9 (within hostOps0_9_sub) (List.forall_iff_forall_mem.mp hostOps0_9_nofresh) (Wcase m) Rw ]

theorem segsChain : CSeg.Chains (st (W0 m)) (segs m) (st (Wend m)) :=
  ⟨fun _ => .rfl, fun _ => .rfl, fun _ => .rfl, fun _ => .rfl, fun _ => .rfl, fun _ => .rfl, fun _ => .rfl, fun _ => .rfl, fun _ => .rfl,
    fun _ => CSeg.case_pre _ _ _ _ _ _ _ _ (branchW m) trivial, fun _ => .rfl, fun _ => .rfl⟩

theorem segsDisj : (segs m).Pairwise fun s s' => Disjoint s.T s'.T := by
  unfold segs
  iterate 9 refine List.pairwise_cons.mpr ⟨fun _ _ => Finset.disjoint_empty_left _, ?_⟩
  refine List.pairwise_cons.mpr ⟨fun s hs => ?_, List.pairwise_singleton ..⟩
  obtain rfl := List.mem_singleton.mp hs
  exact Finset.disjoint_empty_right _

set_option maxRecDepth 100000 in
/-- @main, its labels lifted, is the segments' programs in order. -/
theorem mainSegs (c : Dev nD) : HostLoop.liftProg (L := 0) (main (F := F) c) = CSeg.runL (segs m) := by
  rw [main_chain, HostLoop.liftProg_chain]
  chain_rfl

/-- The launch element: each entry's copy of the pipeline's algebra at its staging cells; no counter. -/
def u₀ : UU := (fun _ => initOf (Pipeline.cells cfgs cellOf_inj) (Pipeline.launchToks cfgs cellOf_inj), 1)

set_option backward.isDefEq.respectTransparency.types false in
/-- THE RUN, over the lifted labels. -/
theorem liftedRun : θ_run (HostLoop.defs loops (Pipeline.defs (pcfgs (F := F)) defs₀)) (onTc fun d => HostLoop.liftProg (L := 0) (main (F := F) d)) ⟨m, fun _ => 0, ρ⟩
    (fun r => (∀ c : Dev nD, ∀ b ∈ Pipeline.ucRefs τ sig, r.2.mem (c, b) = Wend m c b) ∧ r.2.sem = fun _ => 0) :=
  Pipeline.θ_run_regions_loop_kit_sems (pcfgs (F := F)) adm cellOf_inj defs₀ 𝒱₀ L lv loops (tk m) m ρ (fun d => HostLoop.liftProg (L := 0) (main (F := F) d)) (segs m)
    (fun c Q => by rw [mainSegs m c]) (segsDisj m) (O₀ := 0) (hL := fun _ _ => rfl) (G := fun _ => iprop(emp)) (u₀ := u₀)
    (hu₀ := by
      unfold u₀
      iintro Hu
      ihave H := (ownU_pair _ _) $$ Hu
      icases H with ⟨HP, -⟩
      ihave HP := (own_iprod _) $$ HP
      imodintro
      isplitl [HP]
      · iapply (show (bigSep Finset.univ fun j : Fin 2 => BI.own (embAt (B := Counters) j (initOf (Pipeline.cells cfgs cellOf_inj) (Pipeline.launchToks cfgs cellOf_inj))) : sProp 𝕄)
            ⊢ bigSep Finset.univ fun j => BI.own ((tk m j).EP (initOf (Pipeline.cells (Pipeline.pin (pcfgs (F := F)) adm) cellOf_inj) (Pipeline.launchToks (Pipeline.pin (pcfgs (F := F)) adm) cellOf_inj))) from
          bigSep_mono fun j _ => by fin_cases j <;> exact fun _ h => h)
        iexact HP
      iapply (show (BI.emp : sProp 𝕄) ⊢ bigSep Finset.univ (fun _ : Dev nD => (BI.emp : sProp 𝕄)) from by rw [BI.bigSep_emp_const])
      iempintro)
    (T₀ := st (W0 m)) (Tₙ := fun c => held (c : Thread nD τ) (Pipeline.ucRefs τ sig) (Wend m c))
    (hch := segsChain m)
    (hinit := by
      refine Pipeline.initEach L lv fun c => ?_
      rw [show unscopedBufs c (fun b => m ((c : Thread nD τ).loc b)) = held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = Wend m c b)
    (hfin := fun c s' => by
      have h := pointsTo_read_all (Ix := Unit) (Name := ℕ) (U := UU) (Lvl := ℕ) (Pipeline.ucRefs τ sig) (fun b => ((c, b) : Loc nD τ sig)) (fun b => Wend m c b) s'
      iintro H
      imodintro
      iapply h
      iexact H)
    (hQ := fun _ h hz => ⟨h, funext fun g => hz g (.inr (by revert g; decide))⟩)

/-- THE RUN: every weakly fair execution of @main from zero counters terminates, and every final state has every unscoped
    buffer at `Wend` and every semaphore at zero. -/
theorem run : θ_run defs (onTc (τ := τ) (main (F := F))) ⟨m, fun _ => 0, ρ⟩
    (fun r => (∀ c : Dev nD, ∀ b ∈ Pipeline.ucRefs τ sig, r.2.mem (c, b) = Wend m c b) ∧ r.2.sem = fun _ => 0) :=
  HostLoop.θ_run_of_lift loops _ _ _ _ (liftedRun m ρ)

/-! ## The arguments at the end -/

/-- The five arguments. -/
abbrev args : List (Ref sig .tc) := [main_arg0, main_arg1, main_arg2, main_arg3, main_arg4]

theorem hostOps0_args (b : Ref sig .tc) (hb : b ∈ args) : (hostOps0 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_1_args (b : Ref sig .tc) (hb : b ∈ args) : (hostOps0_1 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_2_args (b : Ref sig .tc) (hb : b ∈ args) : (hostOps0_2 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_3_args (b : Ref sig .tc) (hb : b ∈ args) : (hostOps0_3 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_4_args (b : Ref sig .tc) (hb : b ∈ args) : (hostOps0_4 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_5_args (b : Ref sig .tc) (hb : b ∈ args) : (hostOps0_5 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_6_args (b : Ref sig .tc) (hb : b ∈ args) : (hostOps0_6 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_7_args (b : Ref sig .tc) (hb : b ∈ args) : (hostOps0_7 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_8_args (b : Ref sig .tc) (hb : b ∈ args) : (hostOps0_8 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem hostOps0_9_args (b : Ref sig .tc) (hb : b ∈ args) : (hostOps0_9 : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem codeOps_args (b : Ref sig .tc) (hb : b ∈ args) : (codeOps : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem rdOp_args (b : Ref sig .tc) (hb : b ∈ args) : ([rdOp] : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem gCopy_args (b : Ref sig .tc) (hb : b ∈ args) : ([gCopy] : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem fCopy_args (b : Ref sig .tc) (hb : b ∈ args) : ([fCopy] : List (HloOp τ sig (Elt F))).Forall fun op => Proc.devRef .tc b ∉ op.writes := by
  simp only [args, List.mem_cons, List.not_mem_nil, or_false] at hb
  rcases hb with rfl | rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

theorem after_arg {ops : List (HloOp τ sig (Elt F))} (W : Valuation τ sig (Elt F)) (b : Ref sig .tc)
    (h : ops.Forall fun op => Proc.devRef .tc b ∉ op.writes) : after ops W (Proc.devRef .tc b) = W (Proc.devRef .tc b) :=
  StableHlo.after_of_forall_not_mem (b := Proc.devRef .tc b) _ _ (List.forall_iff_forall_mem.mp h)

/-- An argument at every step before the branch is the argument at launch. -/
theorem W1_arg (c : Dev nD) (b : Ref sig .tc) (hb : b ∈ args) : W1 m c b = m (c, b) :=
  (after_arg _ b (hostOps0_args b hb)).trans rfl
theorem W2_arg (c : Dev nD) (b : Ref sig .tc) (hb : b ∈ args) : W2 m c b = m (c, b) :=
  (after_arg _ b (hostOps0_1_args b hb)).trans (W1_arg m c b hb)
theorem W3_arg (c : Dev nD) (b : Ref sig .tc) (hb : b ∈ args) : W3 m c b = m (c, b) :=
  (after_arg _ b (hostOps0_2_args b hb)).trans (W2_arg m c b hb)
theorem W4_arg (c : Dev nD) (b : Ref sig .tc) (hb : b ∈ args) : W4 m c b = m (c, b) :=
  (after_arg _ b (hostOps0_3_args b hb)).trans (W3_arg m c b hb)
theorem W5_arg (c : Dev nD) (b : Ref sig .tc) (hb : b ∈ args) : W5 m c b = m (c, b) :=
  (after_arg _ b (hostOps0_4_args b hb)).trans (W4_arg m c b hb)
theorem W6_arg (c : Dev nD) (b : Ref sig .tc) (hb : b ∈ args) : W6 m c b = m (c, b) :=
  (after_arg _ b (hostOps0_5_args b hb)).trans (W5_arg m c b hb)
theorem W7_arg (c : Dev nD) (b : Ref sig .tc) (hb : b ∈ args) : W7 m c b = m (c, b) :=
  (after_arg _ b (hostOps0_6_args b hb)).trans (W6_arg m c b hb)
theorem W8_arg (c : Dev nD) (b : Ref sig .tc) (hb : b ∈ args) : W8 m c b = m (c, b) :=
  (after_arg _ b (hostOps0_7_args b hb)).trans (W7_arg m c b hb)
theorem W9_arg (c : Dev nD) (b : Ref sig .tc) (hb : b ∈ args) : W9 m c b = m (c, b) :=
  (after_arg _ b (hostOps0_8_args b hb)).trans (W8_arg m c b hb)
theorem Wrd_arg (c : Dev nD) (b : Ref sig .tc) (hb : b ∈ args) : Wrd m c b = m (c, b) :=
  (after_arg _ b (rdOp_args b hb)).trans (W9_arg m c b hb)
theorem Warm_arg (i : Fin 2) (c : Dev nD) (b : Ref sig .tc) (hb : b ∈ args) : Warm m i c b = m (c, b) := by
  fin_cases i
  · refine (after_arg _ b (gCopy_args b hb)).trans ?_
    refine (Wg1_ne m c b (by revert b; decide)).trans ?_
    exact (after_arg _ b (codeOps_args b hb)).trans (Wrd_arg m c b hb)
  · refine (after_arg _ b (fCopy_args b hb)).trans ?_
    exact (Wf1_ne m c b (by revert b; decide)).trans (Wrd_arg m c b hb)
theorem Wend_arg (c : Dev nD) (b : Ref sig .tc) (hb : b ∈ args) : Wend m c b = m (c, b) :=
  (after_arg _ b (hostOps0_9_args b hb)).trans (Warm_arg m _ c b hb)

/-- The run with the result at its contents and the arguments unchanged. -/
theorem result_run : θ_run defs (onTc (τ := τ) (main (F := F))) ⟨m, fun _ => 0, ρ⟩
    (fun r => ∀ c : Dev nD, r.2.mem ((c.tc : Thread nD τ).loc main_v84) = Wend m c main_v84
      ∧ ∀ b ∈ args, r.2.mem ((c.tc : Thread nD τ).loc b) = m ((c.tc : Thread nD τ).loc b)) :=
  (θ_run defs _ _).mono (fun r h c => ⟨h.1 c (Proc.devRef .tc main_v84) (by decide), fun b hb => (h.1 c (Proc.devRef .tc b) (by revert b; decide)).trans (Wend_arg m c b hb)⟩) (run m ρ)

/-- THE FRAME: the arguments unchanged and every semaphore at zero. -/
theorem frame_run : θ_run defs (onTc (τ := τ) (main (F := F))) ⟨m, fun _ => 0, ρ⟩
    (fun r => (∀ c : Dev nD, ∀ b ∈ args, r.2.mem ((c.tc : Thread nD τ).loc b) = m ((c.tc : Thread nD τ).loc b)) ∧ r.2.sem = fun _ => 0) :=
  (θ_run defs _ _).mono (fun r h => ⟨fun c b hb => (h.1 c (Proc.devRef .tc b) (by revert b; decide)).trans (Wend_arg m c b hb), h.2⟩) (run m ρ)

end Cert.KernelIdeal.Run

end
-- ==== Proof.KernelIdeal.Reads.lean ====
/- The kernel program's host values as named functions of the arguments, read off the host stretches. -/
module

public import proofs.«01_k».proof.Proof.KernelIdeal.Main

@[expose] public section

set_option maxRecDepth 16384

noncomputable section

namespace Cert.KernelIdeal.Host

open Idealize.ShloMosaic Idealize.ShloMosaic.TcCoe Idealize.SL.Sem
open Idealize.ShloMosaic.StableHlo (after)
open Cert.KernelIdeal Cert.KernelIdeal.Gen Cert.KernelIdeal.Run

variable {F : FTy → Type} [FloatOps F]

/-- A float vector. -/
abbrev V (F : FTy → Type) [FloatOps F] (s : Shape) : Type := FVec F s .f32

/-! ## The terms -/

/-- The smoothing. -/
def smooth : V F S_ := subf (constant S_ .f32 0x3F800000#32) (Host.powf (constant S_ .f32 0x3F666666#32) (constant S_ .f32 0x3B000000#32))
/-- The table's used corner. -/
def corner (M : V F S5x5x5) : V F S4x4x4 := extractStridedSlice S4x4x4 ![0, 0, 0] M slices_S5x5x5_S4x4x4_0_0_0
/-- Its rows, smoothed. -/
def scaled (M : V F S5x5x5) : V F S16x4 :=
  mulf (broadcastInDim S16x4 ![] bcast_S_S16x4 smooth) (shapeCast S16x4 (corner M) shapeCasts_S4x4x4_S16x4)
/-- One less the row's sum. -/
def slack (Q : V F S16x4) : V F S16 :=
  subf (broadcastInDim S16 ![] bcast_S_S16 (constant S_ .f32 0x3F800000#32)) (Host.reduceAdd Q (constant S_ .f32 0x00000000#32) reducesTo_S16x4_S16_d1 h_S_)
/-- The row numbers. -/
def row : IVec S16 32 := iotaInDim S16 32 0
/-- The divisor, one in place of zero. -/
def four : IVec S_ 32 := select (cmpi .eq (constantI S_ 32 4#32) (constantI S_ 32 0#32)) (constantI S_ 32 1#32) (constantI S_ 32 4#32)
/-- The truncated remainder. -/
def rem : IVec S16 32 := Host.remsi row (broadcastInDim S16 ![] bcast_S_S16 four)
/-- The remainder of the divisor's sign: the target of each row. -/
def column : IVec S16 32 :=
  select (andi (cmpi .ne (cmpi .slt rem (broadcastInDim S16 ![] bcast_S_S16 (constantI S_ 32 0#32))) (broadcastInDim S16 ![] bcast_S_S16 (cmpi .slt four (constantI S_ 32 0#32))))
    (cmpi .ne rem (broadcastInDim S16 ![] bcast_S_S16 (constantI S_ 32 0#32)))) (addi rem (broadcastInDim S16 ![] bcast_S_S16 four)) rem
/-- A negative word counted from the end `a`. -/
def wrap (a : BitVec 32) (v : IVec S16 32) : IVec S16 32 :=
  select (cmpi .slt v (broadcastInDim S16 ![] bcast_S_S16 (constantI S_ 32 0#32))) (addi v (broadcastInDim S16 ![] bcast_S_S16 (constantI S_ 32 a))) v
/-- The cells: a row number and a column number each. -/
def cells (a b : IVec S16 32) : IVec S16x2 32 :=
  concatenate S16x2 1 [⟨S16x1, broadcastInDim S16x1 ![0] bcast_S16_S16x1_0 a⟩, ⟨S16x1, broadcastInDim S16x1 ![0] bcast_S16_S16x1_0 b⟩] concatenates_S16x1_S16x1_S16x2_d1
/-- The rows of the smoothed table, the target's entry set to the row's slack. -/
def setRows (Q : V F S16x4) (v : IVec S16 32) : V F S16x4 :=
  Host.scatter scatter_S16x4_S16x2_S16_n_01_01_1 (fun _ b => b) Q (cells (wrap 16#32 row) (wrap 4#32 v)) (slack Q)
/-- A weight times its logarithm. -/
def wlogw (A : V F S16x4) : V F S16x4 :=
  select (ori (cmpf .une A (broadcastInDim S16x4 ![] bcast_S_S16x4 (constant S_ .f32 0x00000000#32))) (cmpf .une A A)) (mulf A (Host.log A))
    (broadcastInDim S16x4 ![] bcast_S_S16x4 (constant S_ .f32 0x00000000#32))
/-- The row sums. -/
def rowSums (A : V F S16x4) : V F S16 := Host.reduceAdd A (constant S_ .f32 0x00000000#32) reducesTo_S16x4_S16_d1 h_S_
/-- The table's first entry. -/
def first (K : V F S4x4x4) : V F S_ := shapeCast S_ (extractStridedSlice S1x1x1 ![0, 0, 0] K slices_S4x4x4_S1x1x1_0_0_0) shapeCasts_S1x1x1_S_
/-- The one-entry weight times its logarithm, the weight given twice. -/
def wlogw1 (A B : V F S_) : V F S_ :=
  select (ori (cmpf .une A (constant S_ .f32 0x00000000#32)) (cmpf .une B B)) (mulf A (Host.log B)) (constant S_ .f32 0x00000000#32)
/-- One less a multiple. -/
def less (k : BitVec 32) (a : V F S_) : V F S_ := subf (constant S_ .f32 0x3F800000#32) (mulf (constant S_ .f32 k) a)
/-- The self term of a table of one value. -/
def self1 (a : V F S_) : V F S_ :=
  addf (mulf (constant S_ .f32 0x40400000#32) (wlogw1 a a)) (wlogw1 (less 0x40800000#32 a) (less 0x40800000#32 a))
/-- The four constants of a table of one value. -/
def consts (a : V F S_) : V F S4 :=
  concatenate S4 0 [⟨S1, broadcastInDim S1 ![] bcast_S_S1 a⟩, ⟨S1, broadcastInDim S1 ![] bcast_S_S1 (less 0x40A00000#32 a)⟩, ⟨S1, broadcastInDim S1 ![] bcast_S_S1 (self1 a)⟩,
    ⟨S1, broadcastInDim S1 ![] bcast_S_S1 (constant S_ .f32 0x00000000#32)⟩] concatenates_S1_S1_S1_S1_S4_d0
/-- Whether the table has one value. -/
def flatBit (K : V F S4x4x4) : IVec S_ 1 :=
  Host.reduce IntOp.andi (cmpf .oeq K (broadcastInDim S4x4x4 ![] bcast_S_S4x4x4 (first K))) (constantI S_ 1 1#1) reducesTo_S4x4x4_S_d0_1_2 h_S_
/-- The logits by class. -/
def planes (X : V F S4096x512x4) : FVec F S4x4096x512 .bf16 :=
  truncf .bf16 (transpose S4x4096x512 [2, 0, 1] X transposes_S4096x512x4_S4x4096x512_2_0_1) bitsLt_bf16_f32
/-- The codes: four times the class before, and the target. -/
def codes (T : IVec S4096x512 32) : IVec S4096x512 32 :=
  addi (muli (concatenate S4096x512 1 [⟨S4096x1, broadcastInDim S4096x1 ![] bcast_S_S4096x1 (constantI S_ 32 0#32)⟩,
      ⟨S4096x511, extractStridedSlice S4096x511 ![0, 0] T slices_S4096x512_S4096x511_0_0⟩] concatenates_S4096x1_S4096x511_S4096x512_d1)
    (broadcastInDim S4096x512 ![] bcast_S_S4096x512 (constantI S_ 32 4#32))) T
/-- The blocks' sums. -/
def blockSum (P : V F S8x1x128) : V F S128 := Host.reduceAdd P (constant S_ .f32 0x00000000#32) reducesTo_S8x1x128_S128_d0_1 h_S_
/-- The result of the blocks' sums. -/
def final (L : V F S128) : V F S_ :=
  addf (Host.divf (shapeCast S_ (extractStridedSlice S1 ![0] L slices_S128_S1_0) shapeCasts_S1_S_) (shapeCast S_ (extractStridedSlice S1 ![1] L slices_S128_S1_1) shapeCasts_S1_S_))
    (Host.divf (subf (shapeCast S_ (extractStridedSlice S1 ![2] L slices_S128_S1_2) shapeCasts_S1_S_) (shapeCast S_ (extractStridedSlice S1 ![3] L slices_S128_S1_3) shapeCasts_S1_S_))
      (constant S_ .f32 0x4B000000#32))

/-! ## The stretches -/

section Stretch
variable (W : Valuation τ sig (Elt F))

theorem s0_v1 : after hostOps0 W main_v1 = smooth (F := F) := by rfl
theorem s0_v2 : after hostOps0 W main_v2 = corner (F := F) (W main_arg4) := by rfl
theorem s0_v6 : after hostOps0 W main_v6 = scaled (F := F) (W main_arg4) := by rfl
theorem s0_v7 : after hostOps0 W main_v7 = row := by rfl
theorem s0_c : after hostOps0 W main_c = constantI S_ 32 4#32 := by rfl

/-- A stretch in two pieces. -/
theorem after_split (n : ℕ) (ops : List (HloOp τ sig (Elt F))) : after ops W = after (ops.drop n) (after (ops.take n) W) := by
  rw [← StableHlo.after_append, List.take_append_drop]

theorem s1a_v2 (hc : W main_c = constantI S_ 32 4#32) : after (hostOps0_1.take 5) W main_call0_v2 = four := by
  have e : after (hostOps0_1.take 5) W main_call0_v2
    = (fun k : IVec S_ 32 => select (cmpi .eq k (constantI S_ 32 0#32)) (constantI S_ 32 1#32) k) (W main_c) := by rfl
  rw [e, hc]
  rfl
theorem s1a_v7 : after (hostOps0_1.take 5) W main_v7 = W main_v7 := by rfl
theorem s1b_v2 : after ((hostOps0_1.drop 5).take 2) W main_call0_v2 = W main_call0_v2 := by rfl
theorem s1b_v4 : after ((hostOps0_1.drop 5).take 2) W main_call0_v4 = (Host.remsi (W main_v7 : IVec S16 32) (broadcastInDim S16 ![] bcast_S_S16 (W main_call0_v2 : IVec S_ 32)) : IVec S16 32) := by rfl
theorem s1c_v8 : after ((hostOps0_1.drop 5).drop 2) W main_v8 = (fun (r : IVec S16 32) (k : IVec S_ 32) =>
    select (andi (cmpi .ne (cmpi .slt r (broadcastInDim S16 ![] bcast_S_S16 (constantI S_ 32 0#32))) (broadcastInDim S16 ![] bcast_S_S16 (cmpi .slt k (constantI S_ 32 0#32))))
    (cmpi .ne r (broadcastInDim S16 ![] bcast_S_S16 (constantI S_ 32 0#32)))) (addi r (broadcastInDim S16 ![] bcast_S_S16 k)) r) (W main_call0_v4) (W main_call0_v2) := by rfl
theorem s1_v8 (h7 : W main_v7 = row) (hc : W main_c = constantI S_ 32 4#32) : after hostOps0_1 W main_v8 = column := by
  rw [after_split W 5, after_split _ 2, s1c_v8, s1b_v4, s1b_v2, s1a_v2 W hc, s1a_v7, h7]
  rfl
theorem s2a_v6 : after (hostOps0_2.take 13) W main_v6 = W main_v6 := by rfl
theorem s2a_v8 : after (hostOps0_2.take 13) W main_v8 = W main_v8 := by rfl
theorem s2a_v12 : after (hostOps0_2.take 13) W main_v12 = slack (F := F) (W main_v6) := by rfl
theorem s2a_v17 : after (hostOps0_2.take 13) W main_v17 = wrap 16#32 row := by rfl
theorem s2b_v22 : after ((hostOps0_2.drop 13).take 7) W main_v22 = wrap 4#32 (W main_v8) := by rfl
theorem s2b_v6 : after ((hostOps0_2.drop 13).take 7) W main_v6 = W main_v6 := by rfl
theorem s2b_v12 : after ((hostOps0_2.drop 13).take 7) W main_v12 = W main_v12 := by rfl
theorem s2b_v17 : after ((hostOps0_2.drop 13).take 7) W main_v17 = W main_v17 := by rfl
theorem s2c1_v25 : after ((((hostOps0_2.drop 13).drop 7).take 4).take 3) W main_v25 = cells (W main_v17) (W main_v22) := by rfl
theorem s2c1_v6 : after ((((hostOps0_2.drop 13).drop 7).take 4).take 3) W main_v6 = W main_v6 := by rfl
theorem s2c1_v12 : after ((((hostOps0_2.drop 13).drop 7).take 4).take 3) W main_v12 = W main_v12 := by rfl
theorem s2c2_v26 : after ((((hostOps0_2.drop 13).drop 7).take 4).drop 3) W main_v26
  = (fun (x : V F S16x4) (i : IVec S16x2 32) (u : V F S16) => Host.scatter scatter_S16x4_S16x2_S16_n_01_01_1 (fun _ b => b) x i u) (W main_v6) (W main_v25) (W main_v12) := by rfl
theorem s2c_v26 : after (((hostOps0_2.drop 13).drop 7).take 4) W main_v26
    = (Host.scatter scatter_S16x4_S16x2_S16_n_01_01_1 (fun _ b => b) (W main_v6) (cells (W main_v17) (W main_v22)) (W main_v12) : V F S16x4) := by
  rw [after_split W 3 (((hostOps0_2.drop 13).drop 7).take 4), s2c2_v26, s2c1_v25, s2c1_v6, s2c1_v12]
theorem s2d_v26 : after (((hostOps0_2.drop 13).drop 7).drop 4) W main_v26 = W main_v26 := by rfl
theorem s2d_v30 : after (((hostOps0_2.drop 13).drop 7).drop 4) W main_v30
  = (fun A : V F S16x4 => ori (cmpf .une A (broadcastInDim S16x4 ![] bcast_S_S16x4 (constant S_ .f32 0x00000000#32))) (cmpf .une A A)) (W main_v26) := by rfl
theorem s2d_v32 : after (((hostOps0_2.drop 13).drop 7).drop 4) W main_v32 = (fun A : V F S16x4 => mulf A (Host.log A)) (W main_v26) := by rfl
theorem s2d_v33 : after (((hostOps0_2.drop 13).drop 7).drop 4) W main_v33 = (broadcastInDim S16x4 ![] bcast_S_S16x4 (constant S_ .f32 0x00000000#32) : V F S16x4) := by rfl
theorem s2_v33 : after hostOps0_2 W main_v33 = (broadcastInDim S16x4 ![] bcast_S_S16x4 (constant S_ .f32 0x00000000#32) : V F S16x4) := by
  rw [after_split W 13, after_split _ 7, after_split _ 4, s2d_v33]
theorem s2c : after (((hostOps0_2.drop 13).drop 7).take 4) (after ((hostOps0_2.drop 13).take 7) (after (hostOps0_2.take 13) W)) main_v26
    = setRows (F := F) (W main_v6) (W main_v8) := by
  rw [s2c_v26, s2b_v6, s2b_v17, s2b_v22, s2b_v12, s2a_v6, s2a_v8, s2a_v12, s2a_v17]
  rfl
theorem s2_v26 : after hostOps0_2 W main_v26 = setRows (F := F) (W main_v6) (W main_v8) := by
  rw [after_split W 13, after_split _ 7, after_split _ 4, s2d_v26, s2c]
theorem s2_v30 : after hostOps0_2 W main_v30 = (fun A : V F S16x4 => ori (cmpf .une A (broadcastInDim S16x4 ![] bcast_S_S16x4 (constant S_ .f32 0x00000000#32))) (cmpf .une A A))
    (setRows (F := F) (W main_v6) (W main_v8)) := by
  rw [after_split W 13, after_split _ 7, after_split _ 4, s2d_v30, s2c]
theorem s2_v32 : after hostOps0_2 W main_v32 = (fun A : V F S16x4 => mulf A (Host.log A)) (setRows (F := F) (W main_v6) (W main_v8)) := by
  rw [after_split W 13, after_split _ 7, after_split _ 4, s2d_v32, s2c]
theorem s3_v34 : after hostOps0_3 W main_v34 = (select (W main_v30 : IVec S16x4 1) (W main_v32) (W main_v33) : V F S16x4) := by rfl
theorem s4_v35 : after hostOps0_4 W main_v35 = rowSums (F := F) (W main_v34) := by rfl
theorem s4_v37 : after hostOps0_4 W main_v37 = first (F := F) (W main_v2) := by rfl
theorem s4_v39 : after hostOps0_4 W main_v39 = (mulf (W main_v1) (first (W main_v2)) : V F S_) := by rfl
theorem s4_v42 : after hostOps0_4 W main_v42 = (fun A : V F S_ => ori (cmpf .une A (constant S_ .f32 0x00000000#32)) (cmpf .une A A)) (mulf (W main_v1) (first (W main_v2)) : V F S_) := by rfl
theorem s4_v44 : after hostOps0_4 W main_v44 = (fun A : V F S_ => mulf A (Host.log A)) (mulf (W main_v1) (first (W main_v2)) : V F S_) := by rfl
theorem s4_cst : after hostOps0_4 W main_cst_12 = (constant S_ .f32 0x00000000#32 : V F S_) := by rfl
theorem s5_v45 : after hostOps0_5 W main_v45 = (select (W main_v42 : IVec S_ 1) (W main_v44) (W main_cst_12) : V F S_) := by rfl
theorem s6_v46 : after hostOps0_6 W main_v46 = (mulf (constant S_ .f32 0x40400000#32) (W main_v45) : V F S_) := by rfl
theorem s6_v53 : after hostOps0_6 W main_v53 = (fun A : V F S_ => ori (cmpf .une A (constant S_ .f32 0x00000000#32)) (cmpf .une A A)) (less (F := F) 0x40800000#32 (W main_v39)) := by rfl
theorem s6_v55 : after hostOps0_6 W main_v55 = (fun A : V F S_ => mulf A (Host.log A)) (less (F := F) 0x40800000#32 (W main_v39)) := by rfl
theorem s6_cst : after hostOps0_6 W main_cst_19 = (constant S_ .f32 0x00000000#32 : V F S_) := by rfl
theorem s7_v56 : after hostOps0_7 W main_v56 = (select (W main_v53 : IVec S_ 1) (W main_v55) (W main_cst_19) : V F S_) := by rfl
theorem s8_v64 : after hostOps0_8 W main_v64 = (fun (a k : V F S_) => (concatenate S4 0 [⟨S1, broadcastInDim S1 ![] bcast_S_S1 a⟩, ⟨S1, broadcastInDim S1 ![] bcast_S_S1 (less 0x40A00000#32 a)⟩,
    ⟨S1, broadcastInDim S1 ![] bcast_S_S1 k⟩, ⟨S1, broadcastInDim S1 ![] bcast_S_S1 (constant S_ .f32 0x00000000#32)⟩] concatenates_S1_S1_S1_S1_S4_d0 : V F S4))
    (W main_v39) (addf (W main_v46) (W main_v56)) := by rfl
theorem s8_v67 : after hostOps0_8 W main_v67 = (fun (K : V F S4x4x4) (f : V F S_) => Host.reduce IntOp.andi (cmpf .oeq K (broadcastInDim S4x4x4 ![] bcast_S_S4x4x4 f)) (constantI S_ 1 1#1) reducesTo_S4x4x4_S_d0_1_2 h_S_)
    (W main_v2) (W main_v37) := by rfl
theorem s8_v69 : after hostOps0_8 W main_v69 = planes (F := F) (W main_arg0) := by rfl
theorem rd_v70 : after [rdOp] W main_v70 = extui 32 (W main_v67 : IVec S_ 1) natLt_1_32 := by rfl
theorem g_v90 : after codeOps W main_case0b0_v90 = codes (W main_arg1) := by rfl
theorem g_copy : after [gCopy] W main_v71 = W main_case0b0_v91 := by rfl
theorem f_copy : after [fCopy] W main_v71 = W main_case0b1_v85 := by rfl
theorem s9_v84 : after hostOps0_9 W main_v84 = final (F := F) (blockSum (W main_v71)) := by rfl

end Stretch

/-! ## The contents -/

/-- The weights of the sixteen pairs. -/
def table (M : V F S5x5x5) : V F S16x4 := setRows (scaled M) column

section Chain
variable (m : (ℓ : Loc nD τ sig) → Buf (Elt F) ℓ) (c : Dev nD)

theorem W1_v1 : W1 m c main_v1 = smooth (F := F) := s0_v1 _
theorem W1_v2 : W1 m c main_v2 = corner (F := F) (m (c, Proc.devRef .tc main_arg4)) := s0_v2 _
theorem W1_v6 : W1 m c main_v6 = scaled (F := F) (m (c, Proc.devRef .tc main_arg4)) := s0_v6 _
theorem W2_v1 : W2 m c main_v1 = smooth (F := F) := (show after hostOps0_1 (W1 m c) main_v1 = W1 m c main_v1 by rfl).trans (W1_v1 m c)
theorem W2_v2 : W2 m c main_v2 = corner (F := F) (m (c, Proc.devRef .tc main_arg4)) := (show after hostOps0_1 (W1 m c) main_v2 = W1 m c main_v2 by rfl).trans (W1_v2 m c)
theorem W2_v6 : W2 m c main_v6 = scaled (F := F) (m (c, Proc.devRef .tc main_arg4)) := (show after hostOps0_1 (W1 m c) main_v6 = W1 m c main_v6 by rfl).trans (W1_v6 m c)
theorem W3_v1 : W3 m c main_v1 = smooth (F := F) := (show after hostOps0_2 (W2 m c) main_v1 = W2 m c main_v1 by rfl).trans (W2_v1 m c)
theorem W3_v2 : W3 m c main_v2 = corner (F := F) (m (c, Proc.devRef .tc main_arg4)) := (show after hostOps0_2 (W2 m c) main_v2 = W2 m c main_v2 by rfl).trans (W2_v2 m c)
theorem W4_v1 : W4 m c main_v1 = smooth (F := F) := (show after hostOps0_3 (W3 m c) main_v1 = W3 m c main_v1 by rfl).trans (W3_v1 m c)
theorem W4_v2 : W4 m c main_v2 = corner (F := F) (m (c, Proc.devRef .tc main_arg4)) := (show after hostOps0_3 (W3 m c) main_v2 = W3 m c main_v2 by rfl).trans (W3_v2 m c)
theorem W5_v2 : W5 m c main_v2 = corner (F := F) (m (c, Proc.devRef .tc main_arg4)) := (show after hostOps0_4 (W4 m c) main_v2 = W4 m c main_v2 by rfl).trans (W4_v2 m c)
theorem W6_v2 : W6 m c main_v2 = corner (F := F) (m (c, Proc.devRef .tc main_arg4)) := (show after hostOps0_5 (W5 m c) main_v2 = W5 m c main_v2 by rfl).trans (W5_v2 m c)
theorem W7_v2 : W7 m c main_v2 = corner (F := F) (m (c, Proc.devRef .tc main_arg4)) := (show after hostOps0_6 (W6 m c) main_v2 = W6 m c main_v2 by rfl).trans (W6_v2 m c)
theorem W8_v2 : W8 m c main_v2 = corner (F := F) (m (c, Proc.devRef .tc main_arg4)) := (show after hostOps0_7 (W7 m c) main_v2 = W7 m c main_v2 by rfl).trans (W7_v2 m c)
theorem W2_v8 : W2 m c main_v8 = column := s1_v8 _ (s0_v7 _) (s0_c _)
theorem W3_v26 : W3 m c main_v26 = table (F := F) (m (c, Proc.devRef .tc main_arg4)) := by rw [W3, s2_v26, W2_v6, W2_v8]; rfl
theorem W4_v26 : W4 m c main_v26 = table (F := F) (m (c, Proc.devRef .tc main_arg4)) := (show after hostOps0_3 (W3 m c) main_v26 = W3 m c main_v26 by rfl).trans (W3_v26 m c)
theorem W5_v26 : W5 m c main_v26 = table (F := F) (m (c, Proc.devRef .tc main_arg4)) := (show after hostOps0_4 (W4 m c) main_v26 = W4 m c main_v26 by rfl).trans (W4_v26 m c)
theorem W6_v26 : W6 m c main_v26 = table (F := F) (m (c, Proc.devRef .tc main_arg4)) := (show after hostOps0_5 (W5 m c) main_v26 = W5 m c main_v26 by rfl).trans (W5_v26 m c)
theorem W7_v26 : W7 m c main_v26 = table (F := F) (m (c, Proc.devRef .tc main_arg4)) := (show after hostOps0_6 (W6 m c) main_v26 = W6 m c main_v26 by rfl).trans (W6_v26 m c)
theorem W8_v26 : W8 m c main_v26 = table (F := F) (m (c, Proc.devRef .tc main_arg4)) := (show after hostOps0_7 (W7 m c) main_v26 = W7 m c main_v26 by rfl).trans (W7_v26 m c)
theorem W9_v26 : W9 m c main_v26 = table (F := F) (m (c, Proc.devRef .tc main_arg4)) := (show after hostOps0_8 (W8 m c) main_v26 = W8 m c main_v26 by rfl).trans (W8_v26 m c)
theorem W4_v34 : W4 m c main_v34 = wlogw (table (F := F) (m (c, Proc.devRef .tc main_arg4))) := by
  rw [W4, s3_v34, W3, s2_v30, s2_v32, s2_v33, W2_v6, W2_v8]; rfl
theorem W5_v35 : W5 m c main_v35 = rowSums (wlogw (table (F := F) (m (c, Proc.devRef .tc main_arg4)))) := by rw [W5, s4_v35, W4_v34]
theorem W6_v35 : W6 m c main_v35 = rowSums (wlogw (table (F := F) (m (c, Proc.devRef .tc main_arg4)))) := (show after hostOps0_5 (W5 m c) main_v35 = W5 m c main_v35 by rfl).trans (W5_v35 m c)
theorem W7_v35 : W7 m c main_v35 = rowSums (wlogw (table (F := F) (m (c, Proc.devRef .tc main_arg4)))) := (show after hostOps0_6 (W6 m c) main_v35 = W6 m c main_v35 by rfl).trans (W6_v35 m c)
theorem W8_v35 : W8 m c main_v35 = rowSums (wlogw (table (F := F) (m (c, Proc.devRef .tc main_arg4)))) := (show after hostOps0_7 (W7 m c) main_v35 = W7 m c main_v35 by rfl).trans (W7_v35 m c)
theorem W9_v35 : W9 m c main_v35 = rowSums (wlogw (table (F := F) (m (c, Proc.devRef .tc main_arg4)))) := (show after hostOps0_8 (W8 m c) main_v35 = W8 m c main_v35 by rfl).trans (W8_v35 m c)
theorem W5_v37 : W5 m c main_v37 = first (corner (F := F) (m (c, Proc.devRef .tc main_arg4))) := by rw [W5, s4_v37, W4_v2]
theorem W6_v37 : W6 m c main_v37 = first (corner (F := F) (m (c, Proc.devRef .tc main_arg4))) := (show after hostOps0_5 (W5 m c) main_v37 = W5 m c main_v37 by rfl).trans (W5_v37 m c)
theorem W7_v37 : W7 m c main_v37 = first (corner (F := F) (m (c, Proc.devRef .tc main_arg4))) := (show after hostOps0_6 (W6 m c) main_v37 = W6 m c main_v37 by rfl).trans (W6_v37 m c)
theorem W8_v37 : W8 m c main_v37 = first (corner (F := F) (m (c, Proc.devRef .tc main_arg4))) := (show after hostOps0_7 (W7 m c) main_v37 = W7 m c main_v37 by rfl).trans (W7_v37 m c)
theorem W5_v39 : W5 m c main_v39 = mulf smooth (first (corner (F := F) (m (c, Proc.devRef .tc main_arg4)))) := by rw [W5, s4_v39, W4_v2, W4_v1]
theorem W6_v39 : W6 m c main_v39 = mulf smooth (first (corner (F := F) (m (c, Proc.devRef .tc main_arg4)))) := (show after hostOps0_5 (W5 m c) main_v39 = W5 m c main_v39 by rfl).trans (W5_v39 m c)
theorem W7_v39 : W7 m c main_v39 = mulf smooth (first (corner (F := F) (m (c, Proc.devRef .tc main_arg4)))) := (show after hostOps0_6 (W6 m c) main_v39 = W6 m c main_v39 by rfl).trans (W6_v39 m c)
theorem W8_v39 : W8 m c main_v39 = mulf smooth (first (corner (F := F) (m (c, Proc.devRef .tc main_arg4)))) := (show after hostOps0_7 (W7 m c) main_v39 = W7 m c main_v39 by rfl).trans (W7_v39 m c)
theorem W6_v45 : W6 m c main_v45 = wlogw1 (mulf smooth (first (corner (F := F) (m (c, Proc.devRef .tc main_arg4))))) (mulf smooth (first (corner (F := F) (m (c, Proc.devRef .tc main_arg4))))) := by
  rw [W6, s5_v45, W5, s4_v42, s4_v44, s4_cst, W4_v2, W4_v1]; rfl
theorem W7_v46 : W7 m c main_v46 = mulf (constant S_ .f32 0x40400000#32) (wlogw1 (mulf smooth (first (corner (F := F) (m (c, Proc.devRef .tc main_arg4))))) (mulf smooth (first (corner (F := F) (m (c, Proc.devRef .tc main_arg4)))))) := by rw [W7, s6_v46, W6_v45]
theorem W8_v46 : W8 m c main_v46 = mulf (constant S_ .f32 0x40400000#32) (wlogw1 (mulf smooth (first (corner (F := F) (m (c, Proc.devRef .tc main_arg4))))) (mulf smooth (first (corner (F := F) (m (c, Proc.devRef .tc main_arg4)))))) := (show after hostOps0_7 (W7 m c) main_v46 = W7 m c main_v46 by rfl).trans (W7_v46 m c)
theorem W8_v56 : W8 m c main_v56 = wlogw1 (less 0x40800000#32 (mulf smooth (first (corner (F := F) (m (c, Proc.devRef .tc main_arg4)))))) (less 0x40800000#32 (mulf smooth (first (corner (F := F) (m (c, Proc.devRef .tc main_arg4)))))) := by
  rw [W8, s7_v56, W7, s6_v53, s6_v55, s6_cst, W6_v39]; rfl
theorem W9_v64 : W9 m c main_v64 = consts (mulf smooth (first (corner (F := F) (m (c, Proc.devRef .tc main_arg4))))) := by rw [W9, s8_v64, W8_v39, W8_v46, W8_v56]; rfl
theorem W9_v67 : W9 m c main_v67 = flatBit (corner (F := F) (m (c, Proc.devRef .tc main_arg4))) := by rw [W9, s8_v67, W8_v2, W8_v37]; rfl
theorem W9_v69 : W9 m c main_v69 = planes (F := F) (m (c, Proc.devRef .tc main_arg0)) := by rw [W9, s8_v69, W8_arg m c main_arg0 (by decide)]
theorem Wrd_v26 : Wrd m c main_v26 = table (F := F) (m (c, Proc.devRef .tc main_arg4)) := (show after [rdOp] (W9 m c) main_v26 = W9 m c main_v26 by rfl).trans (W9_v26 m c)
theorem Wrd_v35 : Wrd m c main_v35 = rowSums (wlogw (table (F := F) (m (c, Proc.devRef .tc main_arg4)))) := (show after [rdOp] (W9 m c) main_v35 = W9 m c main_v35 by rfl).trans (W9_v35 m c)
theorem Wrd_v64 : Wrd m c main_v64 = consts (mulf smooth (first (corner (F := F) (m (c, Proc.devRef .tc main_arg4))))) := (show after [rdOp] (W9 m c) main_v64 = W9 m c main_v64 by rfl).trans (W9_v64 m c)
theorem Wrd_v69 : Wrd m c main_v69 = planes (F := F) (m (c, Proc.devRef .tc main_arg0)) := (show after [rdOp] (W9 m c) main_v69 = W9 m c main_v69 by rfl).trans (W9_v69 m c)
theorem Wg0_v26 : Wg0 m c main_v26 = table (F := F) (m (c, Proc.devRef .tc main_arg4)) := (show after codeOps (Wrd m c) main_v26 = Wrd m c main_v26 by rfl).trans (Wrd_v26 m c)
theorem Wg0_v35 : Wg0 m c main_v35 = rowSums (wlogw (table (F := F) (m (c, Proc.devRef .tc main_arg4)))) := (show after codeOps (Wrd m c) main_v35 = Wrd m c main_v35 by rfl).trans (Wrd_v35 m c)
theorem Wg0_v69 : Wg0 m c main_v69 = planes (F := F) (m (c, Proc.devRef .tc main_arg0)) := (show after codeOps (Wrd m c) main_v69 = Wrd m c main_v69 by rfl).trans (Wrd_v69 m c)
theorem Wg0_v90 : Wg0 m c main_case0b0_v90 = codes (m (c, Proc.devRef .tc main_arg1)) := by rw [Wg0, g_v90, Wrd_arg m c main_arg1 (by decide)]
/-- The branch's word. -/
theorem word_eq : word m c = extui 32 (flatBit (corner (F := F) (m (c, Proc.devRef .tc main_arg4)))) natLt_1_32 HostLoop.idx0 := by
  rw [word, Wrd, rd_v70, W9_v67]
theorem Wend_v84 : Wend m c main_v84 = final (blockSum (Wcase m c main_v71)) := s9_v84 _
theorem Wg2_v71 : Wg2 m c main_v71 = gArr (fun c b => Wg0 m c b) c := by rw [Wg2, g_copy, Wg1_out]
theorem Wf2_v71 : Wf2 m c main_v71 = fArr (fun c b => Wrd m c b) c := by rw [Wf2, f_copy, Wf1_out]

end Chain

end Cert.KernelIdeal.Host

end
-- ==== Proof.Maths.lean ====
/- The loss over the real numbers, row by row, and the facts by which the two arrangements of it agree. -/
module

public import Idealize.ShloMosaic.Lib.Pointwise
public import Idealize.ShloMosaic.Lib.IdealHost
public import Idealize.ShloMosaic.PureOps.Ideal

@[expose] public section

noncomputable section

namespace Cert.Maths

open Idealize.ShloMosaic

/-! ### The constants -/

theorem word_half (w : BitVec 32) (r : ℝ) (h : Ideal.ofBits .f32 w = (r : EReal)) : FloatOps.ofBits (F := Ideal) .f32 w = (r : EReal) := h

theorem bits_512 : Ideal.ofBits .f32 0x44000000#32 = ((512 : ℝ) : EReal) := by
  simp [Ideal.ofBits, Ideal.ieee]; norm_num; rw [← EReal.coe_mul]; norm_num
theorem bits_512th : Ideal.ofBits .f32 0x3B000000#32 = ((1 / 512 : ℝ) : EReal) := by
  simp [Ideal.ofBits, Ideal.ieee]; norm_num; rw [← EReal.coe_mul]; norm_num
theorem bits_3 : Ideal.ofBits .f32 0x40400000#32 = ((3 : ℝ) : EReal) := by
  simp [Ideal.ofBits, Ideal.ieee]; norm_num; rw [← EReal.coe_mul]; norm_num
theorem bits_4 : Ideal.ofBits .f32 0x40800000#32 = ((4 : ℝ) : EReal) := by
  simp [Ideal.ofBits, Ideal.ieee]; norm_num; rw [← EReal.coe_mul]; norm_num
theorem bits_5 : Ideal.ofBits .f32 0x40A00000#32 = ((5 : ℝ) : EReal) := by
  simp [Ideal.ofBits, Ideal.ieee]; norm_num; rw [← EReal.coe_mul]; norm_num
theorem bits_262144 : Ideal.ofBits .f32 0x48800000#32 = ((262144 : ℝ) : EReal) := by
  simp [Ideal.ofBits, Ideal.ieee]; norm_num; rw [← EReal.coe_mul]; norm_num
theorem bits_8388608 : Ideal.ofBits .f32 0x4B000000#32 = ((8388608 : ℝ) : EReal) := by
  simp [Ideal.ofBits, Ideal.ieee]
theorem bits_1 : Ideal.ofBits .f32 0x3F800000#32 = ((1 : ℝ) : EReal) := by
  rw [Ideal.ofBits_one_f32]; rfl
theorem bits_bot : Ideal.ofBits .f32 0xFF800000#32 = ⊥ := by
  simp [Ideal.ofBits, Ideal.ieee]

/-- The base of the smoothing: the real number of the pattern nearest nine tenths. -/
def base : ℝ := 15099494 / 16777216
theorem bits_base : Ideal.ofBits .f32 0x3F666666#32 = (base : EReal) := by
  simp [Ideal.ofBits, Ideal.ieee, base]; norm_num; rw [← EReal.coe_mul]; norm_num

/-- The smoothing. -/
def s : ℝ := 1 - Real.rpow base (1 / 512)

/-! ### A row -/

/-- The row's largest logit. -/
def top (x : Fin 4 → ℝ) : ℝ := max (max (x 0) (x 1)) (max (x 2) (x 3))
/-- The exponentials of the logits less the largest. -/
def ex (x : Fin 4 → ℝ) (v : Fin 4) : ℝ := Real.exp (x v - top x)
/-- Their sum. -/
def Z (x : Fin 4 → ℝ) : ℝ := ex x 0 + ex x 1 + ex x 2 + ex x 3
theorem ex_pos (x : Fin 4 → ℝ) (v : Fin 4) : 0 < ex x v := Real.exp_pos _
theorem Z_pos (x : Fin 4 → ℝ) : 0 < Z x := by
  have := ex_pos x; unfold Z; have h0 := this 0; have h1 := this 1; have h2 := this 2; have h3 := this 3; linarith
theorem Z_ne (x : Fin 4 → ℝ) : Z x ≠ 0 := (Z_pos x).ne'
/-- The softmax. -/
def prob (x : Fin 4 → ℝ) (v : Fin 4) : ℝ := ex x v * (1 / Z x)
theorem prob_sum (x : Fin 4 → ℝ) : prob x 0 + prob x 1 + prob x 2 + prob x 3 = 1 := by
  unfold prob
  rw [← add_mul, ← add_mul, ← add_mul]
  exact mul_one_div_cancel (Z_ne x)

/-- The masked negative log likelihood. -/
def nll (x : Fin 4 → ℝ) (t : Fin 4) : ℝ := if t = 0 then 0 else top x + Real.log (Z x) - x t
/-- One where the target counts. -/
def live (t : Fin 4) : ℝ := if t = 0 then 0 else 1

/-- A weight times its logarithm, zero at a zero weight. -/
def q (w : ℝ) : EReal := if w = 0 then 0 else (w : EReal) * Ideal.log (w : EReal)

/-- The smoothed row of the table for the class before, `f`, and the target, `t`: off the target the table's entry times the smoothing, at it one less the row's sum. -/
def weight (M : Fin 4 → Fin 4 → Fin 4 → ℝ) (f t v : Fin 4) : ℝ :=
  if v = t then 1 - (s * M f t 0 + s * M f t 1 + s * M f t 2 + s * M f t 3) else s * M f t v

/-- The row's self term. -/
def self (M : Fin 4 → Fin 4 → Fin 4 → ℝ) (f t : Fin 4) : EReal :=
  q (weight M f t 0) + q (weight M f t 1) + q (weight M f t 2) + q (weight M f t 3)

/-- The row's cross term. -/
def cross (M : Fin 4 → Fin 4 → Fin 4 → ℝ) (f t : Fin 4) (x : Fin 4 → ℝ) : ℝ :=
  weight M f t 0 * prob x 0 + weight M f t 1 * prob x 1 + weight M f t 2 * prob x 2 + weight M f t 3 * prob x 3

/-- The class before a position, zero at a row's start. -/
def before (t : Fin 512 → Fin 4) (l : Fin 512) : Fin 4 := if l.val = 0 then 0 else t ⟨l.val - 1, by have := l.isLt; omega⟩

/-! ### The whole -/

/-- The loss of the logits `x`, the targets `t` and the table `M`. -/
def loss (x : Fin 4096 → Fin 512 → Fin 4 → ℝ) (t : Fin 4096 → Fin 512 → Fin 4) (M : Fin 4 → Fin 4 → Fin 4 → ℝ) : EReal :=
  Ideal.div (∑ b, ∑ l, (nll (x b l) (t b l) : EReal)) (∑ b, ∑ l, (live (t b l) : EReal))
    + Ideal.div ((∑ b, ∑ l, self M (before (t b) l) (t b l)) - ∑ b, ∑ l, (cross M (before (t b) l) (t b l) (x b l) : EReal)) ((8388608 : ℝ) : EReal)

/-! ### Coerced sums -/

theorem coe_max (a b : ℝ) : ((max a b : ℝ) : EReal) = max (a : EReal) (b : EReal) :=
  (EReal.coe_strictMono.monotone).map_max

theorem coe_sum {ι : Type*} (S : Finset ι) (f : ι → ℝ) : ∑ i ∈ S, (f i : EReal) = ((∑ i ∈ S, f i : ℝ) : EReal) := by
  classical
  induction S using Finset.induction_on with
  | empty => simp
  | insert a S h ih => rw [Finset.sum_insert h, Finset.sum_insert h, ih, EReal.coe_add]

/-- A sum of differences, the subtracted terms real, is the difference of the sums. -/
theorem sum_sub_coe {ι : Type*} (S : Finset ι) (g : ι → EReal) (f : ι → ℝ) :
    ∑ i ∈ S, (g i - (f i : EReal)) = (∑ i ∈ S, g i) - ∑ i ∈ S, (f i : EReal) := by
  have h : ∀ i, g i - (f i : EReal) = g i + ((-f i : ℝ) : EReal) := fun i => by rw [sub_eq_add_neg, EReal.coe_neg]
  rw [Finset.sum_congr rfl fun i _ => h i, Finset.sum_add_distrib, coe_sum, coe_sum, sub_eq_add_neg, ← EReal.coe_neg, Finset.sum_neg_distrib]

/-- The same for a sum of sums. -/
theorem sum_sub_coe2 {ι κ : Type*} [Fintype ι] [Fintype κ] (g : ι → κ → EReal) (f : ι → κ → ℝ) :
    ∑ i, ∑ k, (g i k - (f i k : EReal)) = (∑ i, ∑ k, g i k) - ∑ i, ∑ k, (f i k : EReal) := by
  have e : ∀ i, ∑ k, (g i k - (f i k : EReal)) = (∑ k, g i k) - ((∑ k, f i k : ℝ) : EReal) := fun i => by rw [sum_sub_coe, coe_sum]
  rw [Finset.sum_congr rfl fun i _ => e i, sum_sub_coe]
  exact congrArg _ (Finset.sum_congr rfl fun i _ => (coe_sum _ _).symm)

/-- Four differences at once. -/
theorem four_sub_coe (a b c d : EReal) (p q r s : ℝ) :
    (a - (p : EReal)) + (b - (q : EReal)) + (c - (r : EReal)) + (d - (s : EReal)) = (a + b + c + d) - ((p + q + r + s : ℝ) : EReal) := by
  simp only [sub_eq_add_neg, ← EReal.coe_neg]
  rw [show -(p + q + r + s) = -p + -q + -r + -s by ring]
  simp only [EReal.coe_add]
  abel

/-- The selection by the two tests of a real weight is `q`. -/
theorem select_q (w : ℝ) :
    Scalar.select (IntOp.ori (Ideal.cmp .une (w : EReal) 0) (Ideal.cmp .une (w : EReal) (w : EReal))) ((w : EReal) * Ideal.log (w : EReal)) 0 = q w := by
  unfold q
  by_cases h : w = 0
  · subst h; simp [Ideal.cmp, Scalar.select, IntOp.ori]
  · have h' : (w : EReal) ≠ 0 := by exact_mod_cast h
    simp [Ideal.cmp, Scalar.select, IntOp.ori, h, h']

end Cert.Maths

end
-- ==== Proof.Soft.lean ====
/- The part both kernel bodies share, over planes of any shape: the softmax of four planes at a position, the planes' masked
   negative log likelihood there, the sum of a plane, and the four lanes of a block's result. -/
module

public import proofs.«01_k».proof.Proof.Maths
public import Idealize.ShloMosaic.PureOps.Ideal.Laws
public import Idealize.ShloMosaic.Lib.Pipeline.Value

@[expose] public section

noncomputable section

namespace Cert.Soft

open Idealize.ShloMosaic

/-! ### The planes -/

section Planes
variable {F : FTy → Type} [FloatOps F] {S : Shape}

/-- The largest of four planes. -/
def top (p0 p1 p2 p3 : FVec F S .f32) : FVec F S .f32 := maximumf (maximumf p0 p1) (maximumf p2 p3)
/-- The exponential of a plane less another. -/
def ex (p m : FVec F S .f32) : FVec F S .f32 := exp (subf p m)
/-- The sum of four planes, in pairs. -/
def total (e0 e1 e2 e3 : FVec F S .f32) : FVec F S .f32 := addf (addf e0 e1) (addf e2 e3)
/-- One over a plane. -/
def recip (z : FVec F S .f32) : FVec F S .f32 := divf (broadcast S (Scalar.ofBits .f32 0x3F800000#32)) z
/-- The plane that a target names. -/
def pick (b0 b1 b2 : IVec S 1) (p0 p1 p2 p3 : FVec F S .f32) : FVec F S .f32 := select b0 p0 (select b1 p1 (select b2 p2 p3))
/-- Zero where the target is zero, one elsewhere. -/
def mask (b0 : IVec S 1) : FVec F S .f32 := select b0 (broadcast S (Scalar.ofBits .f32 0x00000000#32)) (broadcast S (Scalar.ofBits .f32 0x3F800000#32))
/-- The masked negative log likelihood. -/
def nll (m lz xt k : FVec F S .f32) : FVec F S .f32 := mulf (subf (addf m lz) xt) k
/-- Where the target, the low two bits of the code, is `k`. -/
def isT (c : IVec S 32) (k : BitVec 32) : IVec S 1 := cmpi .eq (andi c (broadcast S 3#32)) (broadcast S k)
/-- Where the code is `k`. -/
def isC (c : IVec S 32) (k : BitVec 32) : IVec S 1 := cmpi .eq c (broadcast S k)

end Planes

/-! ### At a position -/

section At
variable {S : Shape} (i : S.Idx)

theorem bit_if (P : Prop) [Decidable P] (a b : EReal) : Scalar.select (BitVec.ofBool (decide P)) a b = if P then a else b := by
  by_cases h : P <;> simp [h, Scalar.select]

theorem top_at (p0 p1 p2 p3 : FVec Ideal S .f32) (x : Fin 4 → ℝ) (h0 : p0 i = ((x 0 : ℝ) : EReal)) (h1 : p1 i = ((x 1 : ℝ) : EReal))
    (h2 : p2 i = ((x 2 : ℝ) : EReal)) (h3 : p3 i = ((x 3 : ℝ) : EReal)) : top p0 p1 p2 p3 i = ((Maths.top x : ℝ) : EReal) := by
  refine (show top p0 p1 p2 p3 i = (max (max (p0 i) (p1 i)) (max (p2 i) (p3 i)) : EReal) from rfl).trans ?_
  rw [h0, h1, h2, h3, Maths.top, Maths.coe_max, Maths.coe_max, Maths.coe_max]

theorem ex_at (p m : FVec Ideal S .f32) (x : Fin 4 → ℝ) (v : Fin 4) (h : p i = ((x v : ℝ) : EReal)) (hm : m i = ((Maths.top x : ℝ) : EReal)) :
    ex p m i = ((Maths.ex x v : ℝ) : EReal) := by
  refine (show ex p m i = Ideal.exp (p i - m i : EReal) from rfl).trans ?_
  rw [h, hm, ← EReal.coe_sub, Ideal.exp_coe]; rfl

theorem total_at (e0 e1 e2 e3 : FVec Ideal S .f32) (x : Fin 4 → ℝ) (h0 : e0 i = ((Maths.ex x 0 : ℝ) : EReal)) (h1 : e1 i = ((Maths.ex x 1 : ℝ) : EReal))
    (h2 : e2 i = ((Maths.ex x 2 : ℝ) : EReal)) (h3 : e3 i = ((Maths.ex x 3 : ℝ) : EReal)) : total e0 e1 e2 e3 i = ((Maths.Z x : ℝ) : EReal) := by
  refine (show total e0 e1 e2 e3 i = ((e0 i + e1 i) + (e2 i + e3 i) : EReal) from rfl).trans ?_
  rw [h0, h1, h2, h3, ← EReal.coe_add, ← EReal.coe_add, ← EReal.coe_add]
  exact congrArg _ (by unfold Maths.Z; ring)

theorem recip_at (z : FVec Ideal S .f32) (x : Fin 4 → ℝ) (h : z i = ((Maths.Z x : ℝ) : EReal)) : recip z i = ((1 / Maths.Z x : ℝ) : EReal) := by
  refine (show recip z i = Ideal.div (Ideal.ofBits .f32 0x3F800000#32) (z i) from rfl).trans ?_
  rw [h, Ideal.div_coe (Maths.Z_ne x), Maths.bits_1, ← EReal.coe_mul, one_mul]

theorem log_at (z : FVec Ideal S .f32) (x : Fin 4 → ℝ) (h : z i = ((Maths.Z x : ℝ) : EReal)) : log z i = ((Real.log (Maths.Z x) : ℝ) : EReal) := by
  refine (show log z i = Ideal.log (z i) from rfl).trans ?_
  rw [h, Ideal.log_coe, if_neg (not_le.mpr (Maths.Z_pos x))]

theorem pick_at (b0 b1 b2 : IVec S 1) (p0 p1 p2 p3 : FVec Ideal S .f32) (t : Fin 4) (x : Fin 4 → ℝ)
    (hb0 : b0 i = BitVec.ofBool (decide (t = 0))) (hb1 : b1 i = BitVec.ofBool (decide (t = 1))) (hb2 : b2 i = BitVec.ofBool (decide (t = 2)))
    (h0 : p0 i = ((x 0 : ℝ) : EReal)) (h1 : p1 i = ((x 1 : ℝ) : EReal)) (h2 : p2 i = ((x 2 : ℝ) : EReal)) (h3 : p3 i = ((x 3 : ℝ) : EReal)) :
    pick b0 b1 b2 p0 p1 p2 p3 i = ((x t : ℝ) : EReal) := by
  refine (show pick b0 b1 b2 p0 p1 p2 p3 i = Scalar.select (b0 i) (p0 i) (Scalar.select (b1 i) (p1 i) (Scalar.select (b2 i) (p2 i) (p3 i))) from rfl).trans ?_
  rw [hb0, hb1, hb2, h0, h1, h2, h3, bit_if, bit_if, bit_if]
  fin_cases t <;> simp

theorem mask_at (b0 : IVec S 1) (t : Fin 4) (hb0 : b0 i = BitVec.ofBool (decide (t = 0))) : mask (F := Ideal) b0 i = ((Maths.live t : ℝ) : EReal) := by
  refine (show mask (F := Ideal) b0 i = Scalar.select (b0 i) (Ideal.ofBits .f32 0x00000000#32) (Ideal.ofBits .f32 0x3F800000#32) from rfl).trans ?_
  rw [hb0, Maths.bits_1, Ideal.ofBits_zero_f32, bit_if]
  unfold Maths.live
  split <;> simp

theorem nll_at (m lz xt k : FVec Ideal S .f32) (x : Fin 4 → ℝ) (t : Fin 4) (hm : m i = ((Maths.top x : ℝ) : EReal)) (hl : lz i = ((Real.log (Maths.Z x) : ℝ) : EReal))
    (hx : xt i = ((x t : ℝ) : EReal)) (hk : k i = ((Maths.live t : ℝ) : EReal)) : nll m lz xt k i = ((Maths.nll x t : ℝ) : EReal) := by
  refine (show nll m lz xt k i = (((m i + lz i) - xt i) * k i : EReal) from rfl).trans ?_
  rw [hm, hl, hx, hk, ← EReal.coe_add, ← EReal.coe_sub, ← EReal.coe_mul]
  refine congrArg _ ?_
  unfold Maths.live Maths.nll
  split <;> simp

/-- The code of a class before and a target. -/
def code (f t : Fin 4) : BitVec 32 := BitVec.ofNat 32 (f.val * 4 + t.val)

theorem isT_at (c : IVec S 32) (f t : Fin 4) (h : c i = code f t) (k : Fin 4) (w : BitVec 32) (hw : w = BitVec.ofNat 32 k.val) :
    isT c w i = BitVec.ofBool (decide (t = k)) := by
  subst hw
  refine (show isT c _ i = IntOp.cmpi .eq (IntOp.andi (c i) 3#32) (BitVec.ofNat 32 k.val) from rfl).trans ?_
  rw [h]
  clear h
  revert f t k; decide

theorem isC_at (c : IVec S 32) (f t : Fin 4) (h : c i = code f t) (k : Fin 16) (w : BitVec 32) (hw : w = BitVec.ofNat 32 k.val) :
    isC c w i = BitVec.ofBool (decide (f.val * 4 + t.val = k.val)) := by
  subst hw
  refine (show isC c _ i = IntOp.cmpi .eq (c i) (BitVec.ofNat 32 k.val) from rfl).trans ?_
  rw [h]
  clear h
  revert f t k; decide

end At

/-! ### The sum of a plane -/

/-- A plane's total, taken as the bodies take it. -/
def sum {F : FTy → Type} [FloatOps F] {N K : ℕ} (v : FVec F ⟨2, ![N, K]⟩ .f32) (h1 : (⟨2, ![N, K]⟩ : Shape).ShapeCasts ⟨3, ![1, N, K]⟩)
    (h2 : (⟨3, ![1, N, K]⟩ : Shape).Reduces [1, 2] ⟨1, ![1]⟩) (h3 : (⟨1, ![1]⟩ : Shape).ShapeCasts ⟨3, ![1, 1, 1]⟩)
    (h4 : ∀ a, (![0, 0, 0] : Fin 3 → ℕ) a < (⟨3, ![1, 1, 1]⟩ : Shape).size a) : F .f32 :=
  extractAt ![0, 0, 0] (shapeCast ⟨3, ![1, 1, 1]⟩ (multiReduction .add [1, 2] ⟨1, ![1]⟩ (shapeCast ⟨3, ![1, N, K]⟩ v h1) 0x00000000#32 h2 (.inl rfl) rfl) h3) h4

theorem sum_at {N K : ℕ} (v : FVec Ideal ⟨2, ![N, K]⟩ .f32) (h1 h2 h3 h4) : sum v h1 h2 h3 h4 = ∑ r : Fin N, ∑ l : Fin K, v (ix2 r l) := by
  refine (Ideal.multiReduction_add_total (shapeCast ⟨3, ![1, N, K]⟩ v h1) 0x00000000#32 h2 (fun b => by match b with | ⟨0, _⟩ => rfl) (.inl rfl) rfl _).trans ?_
  rw [← Finset.sum_product']
  refine Finset.sum_bij' (fun i _ => (i 1, i 2)) (fun n _ => ix3 0 n.1 n.2) (fun _ _ => Finset.mem_univ _) (fun _ _ => Finset.mem_univ _) ?_ (fun _ _ => rfl) ?_
  · intro i _
    funext a
    match a with
    | ⟨0, _⟩ => exact Fin.ext (by have := (i 0).isLt; simp at this; show 0 = (i 0).val; omega)
    | ⟨1, _⟩ => rfl
    | ⟨2, _⟩ => rfl
  · intro i _
    refine shapeCast_apply v h1 i (ix2 (i 1) (i 2)) ?_
    rw [Shape.rowMajor_val_two, Shape.rowMajor_val_three]
    have := (i 0).isLt
    simp at this
    show (i 1).val * K + (i 2).val = ((i 0).val * N + (i 1).val) * K + (i 2).val
    rw [this]; simp

/-! ### The lanes -/

/-- A block's result: four numbers in the first four lanes, zero elsewhere. -/
def lanes {F : FTy → Type} [FloatOps F] {L : ℕ} (h : (⟨3, ![1, 1, L]⟩ : Shape).Iotas .tc 32 [2]) (a b c d : F .f32) : FVec F ⟨3, ![1, 1, L]⟩ .f32 :=
  select (cmpi .eq (iota .tc ⟨3, ![1, 1, L]⟩ 32 [2] h) (broadcast _ 0#32)) (broadcast _ a)
    (select (cmpi .eq (iota .tc ⟨3, ![1, 1, L]⟩ 32 [2] h) (broadcast _ 1#32)) (broadcast _ b)
      (select (cmpi .eq (iota .tc ⟨3, ![1, 1, L]⟩ 32 [2] h) (broadcast _ 2#32)) (broadcast _ c)
        (select (cmpi .eq (iota .tc ⟨3, ![1, 1, L]⟩ 32 [2] h) (broadcast _ 3#32)) (broadcast _ d) (broadcast _ (Scalar.ofBits .f32 0x00000000#32)))))

theorem lanes_at (h : (⟨3, ![1, 1, 128]⟩ : Shape).Iotas .tc 32 [2]) (a b c d : EReal) (n : Fin 128) (r0 r1 : Fin 1) :
    lanes (F := Ideal) h a b c d (ix3 r0 r1 n) = if n.val = 0 then a else if n.val = 1 then b else if n.val = 2 then c else if n.val = 3 then d else 0 := by
  have w : ∀ k : Fin 128, IntOp.cmpi .eq (BitVec.ofNat 32 (0 * 128 + n.val)) (BitVec.ofNat 32 k.val) = BitVec.ofBool (decide (n.val = k.val)) := by
    intro k
    by_cases e : n.val = k.val
    · simp [IntOp.cmpi, e]
    · have : BitVec.ofNat 32 n.val ≠ BitVec.ofNat 32 k.val := fun q => e (by
        have := congrArg BitVec.toNat q
        rw [BitVec.toNat_ofNat, BitVec.toNat_ofNat] at this
        have := n.isLt; have := k.isLt; omega)
      simp [IntOp.cmpi, e]
      rw [beq_eq_false_iff_ne.mpr this]; rfl
  refine (show lanes (F := Ideal) h a b c d (ix3 r0 r1 n) = Scalar.select (IntOp.cmpi .eq (BitVec.ofNat 32 (0 * 128 + n.val)) 0#32) a
      (Scalar.select (IntOp.cmpi .eq (BitVec.ofNat 32 (0 * 128 + n.val)) 1#32) b
        (Scalar.select (IntOp.cmpi .eq (BitVec.ofNat 32 (0 * 128 + n.val)) 2#32) c
          (Scalar.select (IntOp.cmpi .eq (BitVec.ofNat 32 (0 * 128 + n.val)) 3#32) d (Ideal.ofBits .f32 0x00000000#32)))) from rfl).trans ?_
  have w0 := w 0
  have w1 := w 1
  have w2 := w 2
  have w3 := w 3
  simp only [Ideal.ofBits_zero_f32]
  erw [w0, w1, w2, w3, bit_if, bit_if, bit_if, bit_if]
  rfl

end Cert.Soft

end
-- ==== Proof.KernelIdeal.Fast.lean ====
/- The fast body's block, read: its four lanes as sums over the block's positions. -/
module

public import proofs.«01_k».proof.Proof.KernelIdeal.Bodies
public import proofs.«01_k».proof.Proof.Soft
public import Idealize.ShloMosaic.Lib.Pointwise
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Gen

variable {F : FTy → Type} [FloatOps F]

/-- The four planes of a block of logits. -/
def plane0 (x0 : Vec F S4x512x512 .bf16) : FVec F S512x512 .f32 := k1_pay2 (View.ld x0 (Rect.unit ![0, 0, 0] ![1, 512, 512] inb_S4x512x512_S1x512x512_0_0_0))
def plane1 (x0 : Vec F S4x512x512 .bf16) : FVec F S512x512 .f32 := k1_pay3 (View.ld x0 (Rect.unit ![1, 0, 0] ![1, 512, 512] inb_S4x512x512_S1x512x512_1_0_0))
def plane2 (x0 : Vec F S4x512x512 .bf16) : FVec F S512x512 .f32 := k1_pay4 (View.ld x0 (Rect.unit ![2, 0, 0] ![1, 512, 512] inb_S4x512x512_S1x512x512_2_0_0))
def plane3 (x0 : Vec F S4x512x512 .bf16) : FVec F S512x512 .f32 := k1_pay5 (View.ld x0 (Rect.unit ![3, 0, 0] ![1, 512, 512] inb_S4x512x512_S1x512x512_3_0_0))
/-- Their largest, the exponentials and their sum. -/
def bTop (x0 : Vec F S4x512x512 .bf16) : FVec F S512x512 .f32 := Soft.top (plane0 x0) (plane1 x0) (plane2 x0) (plane3 x0)
def bE0 (x0 : Vec F S4x512x512 .bf16) : FVec F S512x512 .f32 := Soft.ex (plane0 x0) (bTop x0)
def bE1 (x0 : Vec F S4x512x512 .bf16) : FVec F S512x512 .f32 := Soft.ex (plane1 x0) (bTop x0)
def bE2 (x0 : Vec F S4x512x512 .bf16) : FVec F S512x512 .f32 := Soft.ex (plane2 x0) (bTop x0)
def bE3 (x0 : Vec F S4x512x512 .bf16) : FVec F S512x512 .f32 := Soft.ex (plane3 x0) (bTop x0)
def bZ (x0 : Vec F S4x512x512 .bf16) : FVec F S512x512 .f32 := Soft.total (bE0 x0) (bE1 x0) (bE2 x0) (bE3 x0)
def bR (x0 : Vec F S4x512x512 .bf16) : FVec F S512x512 .f32 := Soft.recip (bZ x0)
/-- The masked negative log likelihood of a block. -/
def bNll (x0 : Vec F S4x512x512 .bf16) (c : IVec S512x512 32) : FVec F S512x512 .f32 :=
  Soft.nll (bTop x0) (log (bZ x0)) (Soft.pick (Soft.isT c 0#32) (Soft.isT c 1#32) (Soft.isT c 2#32) (plane0 x0) (plane1 x0) (plane2 x0) (plane3 x0))
    (Soft.mask (Soft.isT c 0#32))
/-- The target's probability. -/
def bProb (x0 : Vec F S4x512x512 .bf16) (c : IVec S512x512 32) : FVec F S512x512 .f32 :=
  mulf (Soft.pick (Soft.isT c 0#32) (Soft.isT c 1#32) (Soft.isT c 2#32) (bE0 x0) (bE1 x0) (bE2 x0) (bE3 x0)) (bR x0)
/-- A plane's total. -/
def bSum (v : FVec F S512x512 .f32) : F .f32 := Soft.sum v shapeCasts_S512x512_S1x512x512 reduces_S1x512x512_S1 shapeCasts_S1_S1x1x1 inpos_S1x1x1_p0_0_0

/-- The fast block: two sums, and two sums taken from the parameters. -/
def fastBlk (x0 : Vec F S4x512x512 .bf16) (c : IVec S512x512 32) (x2 : Vec F S4 .f32) : Vec F S1x1x128 .f32 :=
  Soft.lanes iota_S1x1x128_d2_w32 (bSum (bNll x0 c)) (bSum (Soft.mask (Soft.isT c 0#32)))
    (Scalar.mulf (x2 (ix1 2)) (Scalar.ofBits .f32 0x48800000#32))
    (Scalar.addf (Scalar.mulf (x2 (ix1 0)) (Scalar.ofBits .f32 0x48800000#32)) (Scalar.mulf (x2 (ix1 1)) (bSum (bProb x0 c))))

theorem fastOut_eq (c : Dev nD) (t : Fin cfg1.N) (x0 : Vec F S4x512x512 .bf16) (x1 : Vec F S512x512 .i32) (x2 : Vec F S4 .f32) :
    fastOut c t x0 x1 x2 = fastBlk x0 x1 x2 := by
  unfold fastOut
  rw [View.read_writes_junk_eq_canon]
  dsimp only [fastRun]
  sl_unfold_words
  simp only [View.readAt_eq_ld, Memref.IsWhole.read_unread]
  refine (View.canon_cons_unit_lit _ _ _ (by decide)).trans ?_
  have e1 : View.ld x1 (Rect.unit ![0, 0] ![512, 512] inb_S512x512_S512x512_0_0) = x1 := View.ld_unit_lit _ _ (by decide)
  rw [e1]
  have i2 : (Rect.unit (s := S4) ![2] ![1] inb_S4_S1_2).idx (Shape.Idx.first (by decide)) = (ix1 2 : S4.Idx) := by decide
  have i1 : (Rect.unit (s := S4) ![1] ![1] inb_S4_S1_1).idx (Shape.Idx.first (by decide)) = (ix1 1 : S4.Idx) := by decide
  have i0 : (Rect.unit (s := S4) ![0] ![1] inb_S4_S1_0).idx (Shape.Idx.first (by decide)) = (ix1 0 : S4.Idx) := by decide
  have v2 : View.ld x2 (Rect.unit ![2] ![1] inb_S4_S1_2) (Shape.Idx.first (by decide)) = x2 (ix1 2) := congrArg x2 i2
  have v1 : View.ld x2 (Rect.unit ![1] ![1] inb_S4_S1_1) (Shape.Idx.first (by decide)) = x2 (ix1 1) := congrArg x2 i1
  have v0 : View.ld x2 (Rect.unit ![0] ![1] inb_S4_S1_0) (Shape.Idx.first (by decide)) = x2 (ix1 0) := congrArg x2 i0
  rw [v2, v1, v0]
  rfl

end Cert.KernelIdeal.Run

end
-- ==== Proof.KernelIdeal.General.lean ====
/- The general body's block, read: its four lanes as sums over the block's positions, two of them of sums over the sixteen codes. -/
module

public import proofs.«01_k».proof.Proof.KernelIdeal.Fast

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Gen

variable {F : FTy → Type} [FloatOps F]

/-- The weighted sum of the exponentials by code `k`'s row of the table, where the code is `k`; zero elsewhere. -/
def codeDot (x0 : Vec F S4x512x512 .bf16) (c : IVec S512x512 32) (w : Vec F S16x4 .f32) (k : ℕ) (h : k < 16) : FVec F S512x512 .f32 :=
  select (Soft.isC c (BitVec.ofNat 32 k))
    (addf (addf (addf (mulf (broadcast S512x512 (w (ix2 (⟨k, h⟩ : Fin 16) (0 : Fin 4)))) (bE0 x0)) (mulf (broadcast S512x512 (w (ix2 (⟨k, h⟩ : Fin 16) (1 : Fin 4)))) (bE1 x0)))
      (mulf (broadcast S512x512 (w (ix2 (⟨k, h⟩ : Fin 16) (2 : Fin 4)))) (bE2 x0))) (mulf (broadcast S512x512 (w (ix2 (⟨k, h⟩ : Fin 16) (3 : Fin 4)))) (bE3 x0)))
    (broadcast S512x512 (Scalar.ofBits .f32 0x00000000#32))
/-- Code `k`'s self term where the code is `k`; zero elsewhere. -/
def codeSelf (c : IVec S512x512 32) (q : Vec F S16 .f32) (k : ℕ) (h : k < 16) : FVec F S512x512 .f32 :=
  select (Soft.isC c (BitVec.ofNat 32 k)) (broadcast S512x512 (q (ix1 (⟨k, h⟩ : Fin 16)))) (broadcast S512x512 (Scalar.ofBits .f32 0x00000000#32))
/-- The sums over the first `n` codes. -/
def accDot (x0 : Vec F S4x512x512 .bf16) (c : IVec S512x512 32) (w : Vec F S16x4 .f32) : (n : ℕ) → n ≤ 16 → FVec F S512x512 .f32
  | 0, _ => broadcast S512x512 (Scalar.ofBits .f32 0x00000000#32)
  | n + 1, h => addf (accDot x0 c w n (Nat.le_of_succ_le h)) (codeDot x0 c w n h)
def accSelf (c : IVec S512x512 32) (q : Vec F S16 .f32) : (n : ℕ) → n ≤ 16 → FVec F S512x512 .f32
  | 0, _ => broadcast S512x512 (Scalar.ofBits .f32 0x00000000#32)
  | n + 1, h => addf (accSelf c q n (Nat.le_of_succ_le h)) (codeSelf c q n h)

/-- The general block: four sums. -/
def genBlk (x0 : Vec F S4x512x512 .bf16) (c : IVec S512x512 32) (w : Vec F S16x4 .f32) (q : Vec F S16 .f32) : Vec F S1x1x128 .f32 :=
  Soft.lanes iota_S1x1x128_d2_w32 (bSum (bNll x0 c)) (bSum (Soft.mask (Soft.isT c 0#32)))
    (bSum (accSelf c q 16 (Nat.le_refl 16))) (bSum (mulf (accDot x0 c w 16 (Nat.le_refl 16)) (bR x0)))

theorem at_cell (i j : ℕ) (inb) (h) : (Rect.unit (s := S16x4) ![i, j] ![1, 1] inb).toLoadRect.idx (Shape.Idx.first h)
    = ix2 (⟨i, by have := inb 0; exact this⟩ : Fin 16) (⟨j, by have := inb 1; exact this⟩ : Fin 4) :=
  funext fun a => match a with
    | ⟨0, _⟩ => Fin.ext (show i + 1 * 0 = i by omega)
    | ⟨1, _⟩ => Fin.ext (show j + 1 * 0 = j by omega)

theorem at_entry (i : ℕ) (inb) (h) : (Rect.unit (s := S16) ![i] ![1] inb).toLoadRect.idx (Shape.Idx.first h)
    = ix1 (⟨i, by have := inb 0; exact this⟩ : Fin 16) :=
  funext fun a => match a with
    | ⟨0, _⟩ => Fin.ext (show i + 1 * 0 = i by omega)

set_option maxHeartbeats 1000000 in
theorem genOut_eq (c : Dev nD) (t : Fin cfg0.N) (x0 : Vec F S4x512x512 .bf16) (x1 : Vec F S512x512 .i32) (x2 : Vec F S16x4 .f32) (x3 : Vec F S16 .f32) :
    genOut c t x0 x1 x2 x3 = genBlk x0 x1 x2 x3 := by
  unfold genOut
  rw [View.read_writes_junk_eq_canon]
  dsimp only [genRun]
  sl_unfold_words
  simp only [View.readAt_eq_ld, Memref.IsWhole.read_unread]
  refine (View.canon_cons_unit_lit _ _ _ (by decide)).trans ?_
  have e1 : View.ld x1 (Rect.unit ![0, 0] ![512, 512] inb_S512x512_S512x512_0_0) = x1 := View.ld_unit_lit _ _ (by decide)
  rw [e1]
  have w : ∀ (i j : ℕ) (inb) (h) , View.ld x2 (Rect.unit (s := S16x4) ![i, j] ![1, 1] inb) (Shape.Idx.first h) = _ := fun i j inb h => congrArg x2 (at_cell i j inb h)
  have q : ∀ (i : ℕ) (inb) (h) , View.ld x3 (Rect.unit (s := S16) ![i] ![1] inb) (Shape.Idx.first h) = _ := fun i inb h => congrArg x3 (at_entry i inb h)
  simp only [w, q]
  have e6 : k0_pay6 (F := F) x1 = x1 := shapeCast_self _ _
  simp only [e6]
  have h16 : k0_pay16 (F := F) x1 = Soft.isT x1 0#32 := by unfold k0_pay16 k0_pay7; rw [e6]; rfl
  have h17 : k0_pay17 (F := F) x1 = Soft.isT x1 1#32 := by unfold k0_pay17 k0_pay7; rw [e6]; rfl
  have h18 : k0_pay18 (View.ld x0 (Rect.unit ![2, 0, 0] ![1, 512, 512] inb_S4x512x512_S1x512x512_2_0_0)) (View.ld x0 (Rect.unit ![3, 0, 0] ![1, 512, 512] inb_S4x512x512_S1x512x512_3_0_0)) x1 = select (Soft.isT x1 2#32) (plane2 x0) (plane3 x0) := by unfold k0_pay18 k0_pay7; rw [e6]; rfl
  have h9 : k0_pay9 (View.ld x0 (Rect.unit ![0, 0, 0] ![1, 512, 512] inb_S4x512x512_S1x512x512_0_0_0)) (View.ld x0 (Rect.unit ![1, 0, 0] ![1, 512, 512] inb_S4x512x512_S1x512x512_1_0_0)) (View.ld x0 (Rect.unit ![2, 0, 0] ![1, 512, 512] inb_S4x512x512_S1x512x512_2_0_0)) (View.ld x0 (Rect.unit ![3, 0, 0] ![1, 512, 512] inb_S4x512x512_S1x512x512_3_0_0)) = bE0 x0 := rfl
  have h10 : k0_pay10 (View.ld x0 (Rect.unit ![0, 0, 0] ![1, 512, 512] inb_S4x512x512_S1x512x512_0_0_0)) (View.ld x0 (Rect.unit ![1, 0, 0] ![1, 512, 512] inb_S4x512x512_S1x512x512_1_0_0)) (View.ld x0 (Rect.unit ![2, 0, 0] ![1, 512, 512] inb_S4x512x512_S1x512x512_2_0_0)) (View.ld x0 (Rect.unit ![3, 0, 0] ![1, 512, 512] inb_S4x512x512_S1x512x512_3_0_0)) = bE1 x0 := rfl
  have h11 : k0_pay11 (View.ld x0 (Rect.unit ![0, 0, 0] ![1, 512, 512] inb_S4x512x512_S1x512x512_0_0_0)) (View.ld x0 (Rect.unit ![1, 0, 0] ![1, 512, 512] inb_S4x512x512_S1x512x512_1_0_0)) (View.ld x0 (Rect.unit ![2, 0, 0] ![1, 512, 512] inb_S4x512x512_S1x512x512_2_0_0)) (View.ld x0 (Rect.unit ![3, 0, 0] ![1, 512, 512] inb_S4x512x512_S1x512x512_3_0_0)) = bE2 x0 := rfl
  have h12 : k0_pay12 (View.ld x0 (Rect.unit ![0, 0, 0] ![1, 512, 512] inb_S4x512x512_S1x512x512_0_0_0)) (View.ld x0 (Rect.unit ![1, 0, 0] ![1, 512, 512] inb_S4x512x512_S1x512x512_1_0_0)) (View.ld x0 (Rect.unit ![2, 0, 0] ![1, 512, 512] inb_S4x512x512_S1x512x512_2_0_0)) (View.ld x0 (Rect.unit ![3, 0, 0] ![1, 512, 512] inb_S4x512x512_S1x512x512_3_0_0)) = bE3 x0 := rfl
  have h14 : k0_pay14 (View.ld x0 (Rect.unit ![0, 0, 0] ![1, 512, 512] inb_S4x512x512_S1x512x512_0_0_0)) (View.ld x0 (Rect.unit ![1, 0, 0] ![1, 512, 512] inb_S4x512x512_S1x512x512_1_0_0)) (View.ld x0 (Rect.unit ![2, 0, 0] ![1, 512, 512] inb_S4x512x512_S1x512x512_2_0_0)) (View.ld x0 (Rect.unit ![3, 0, 0] ![1, 512, 512] inb_S4x512x512_S1x512x512_3_0_0)) = bR x0 := rfl
  have h15 : k0_pay15 (View.ld x0 (Rect.unit ![0, 0, 0] ![1, 512, 512] inb_S4x512x512_S1x512x512_0_0_0)) (View.ld x0 (Rect.unit ![1, 0, 0] ![1, 512, 512] inb_S4x512x512_S1x512x512_1_0_0)) (View.ld x0 (Rect.unit ![2, 0, 0] ![1, 512, 512] inb_S4x512x512_S1x512x512_2_0_0)) (View.ld x0 (Rect.unit ![3, 0, 0] ![1, 512, 512] inb_S4x512x512_S1x512x512_3_0_0)) = log (bZ x0) := rfl
  have h8 : k0_pay8 (View.ld x0 (Rect.unit ![0, 0, 0] ![1, 512, 512] inb_S4x512x512_S1x512x512_0_0_0)) (View.ld x0 (Rect.unit ![1, 0, 0] ![1, 512, 512] inb_S4x512x512_S1x512x512_1_0_0)) (View.ld x0 (Rect.unit ![2, 0, 0] ![1, 512, 512] inb_S4x512x512_S1x512x512_2_0_0)) (View.ld x0 (Rect.unit ![3, 0, 0] ![1, 512, 512] inb_S4x512x512_S1x512x512_3_0_0)) = bTop x0 := rfl
  have h2 : k0_pay2 (View.ld x0 (Rect.unit ![0, 0, 0] ![1, 512, 512] inb_S4x512x512_S1x512x512_0_0_0)) = plane0 x0 := rfl
  have h3 : k0_pay3 (View.ld x0 (Rect.unit ![1, 0, 0] ![1, 512, 512] inb_S4x512x512_S1x512x512_1_0_0)) = plane1 x0 := rfl
  simp only [h16, h17, h18, h9, h10, h11, h12, h14, h15, h8, h2, h3]
  have h20 : k0_pay20 (plane0 x0) (plane1 x0) (bTop x0) (log (bZ x0)) (Soft.isT x1 0#32) (Soft.isT x1 1#32) (select (Soft.isT x1 2#32) (plane2 x0) (plane3 x0))
      = bSum (bNll x0 x1) := rfl
  have h21 : k0_pay21 (F := F) (Soft.isT x1 0#32) = bSum (Soft.mask (F := F) (Soft.isT x1 0#32)) := rfl
  rw [h20, h21]
  unfold genBlk
  generalize bSum (bNll x0 x1) = s0
  generalize bSum (Soft.mask (F := F) (Soft.isT x1 0#32)) = s1
  simp only [accDot, accSelf, codeDot, codeSelf]
  generalize bE0 x0 = e0
  generalize bE1 x0 = e1
  generalize bE2 x0 = e2
  generalize bE3 x0 = e3
  generalize bR x0 = r
  simp only [k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay1, Soft.lanes, Soft.isC, bSum, Soft.sum]

  rfl

end Cert.KernelIdeal.Run

end
-- ==== Proof.KernelIdeal.Blocks.lean ====
/- Both bodies' blocks over the extended reals: real logits, codes of classes, and the tables' entries give the four lanes as
   sums of the rows' terms. -/
module

public import proofs.«01_k».proof.Proof.KernelIdeal.General

@[expose] public section

set_option maxRecDepth 16384

noncomputable section

namespace Cert.KernelIdeal.Run

open Idealize.ShloMosaic Idealize.ShloMosaic.TcCoe Idealize.SL.Sem
open Cert.KernelIdeal Cert.KernelIdeal.Gen

section Block
variable (x0 : Vec Ideal S4x512x512 .bf16) (c : IVec S512x512 32) (y : Fin 512 → Fin 512 → Fin 4 → ℝ) (f t : Fin 512 → Fin 512 → Fin 4)
variable (hx : ∀ (v : Fin 4) (r l : Fin 512), x0 (ix3 v r l) = ((y r l v : ℝ) : EReal))
variable (hc : ∀ r l : Fin 512, c (ix2 r l) = Soft.code (f r l) (t r l))
variable (r l : Fin 512)

theorem cast_plane (z : Vec Ideal S1x512x512 .bf16) (h : S1x512x512.ShapeCasts S512x512) : shapeCast S512x512 z h (ix2 r l) = z (ix3 (0 : Fin 1) r l) :=
  shapeCast_apply z h (ix2 r l) (ix3 (0 : Fin 1) r l) (by
    rw [Shape.rowMajor_val_two, Shape.rowMajor_val_three]
    show (0 * 512 + r.val) * 512 + l.val = r.val * 512 + l.val
    omega)

theorem ld_plane (k : ℕ) (hk : k < 4) (inb) : View.ld x0 (Rect.unit (s := S4x512x512) ![k, 0, 0] ![1, 512, 512] inb) (ix3 (0 : Fin 1) r l) = x0 (ix3 (⟨k, hk⟩ : Fin 4) r l) :=
  congrArg x0 (funext fun a => match a with
    | ⟨0, _⟩ => Fin.ext (show k + 1 * 0 = k by omega)
    | ⟨1, _⟩ => Fin.ext (show 0 + 1 * r.val = r.val by omega)
    | ⟨2, _⟩ => Fin.ext (show 0 + 1 * l.val = l.val by omega))

include hx

theorem plane0_at : plane0 x0 (ix2 r l) = ((y r l 0 : ℝ) : EReal) :=
  (cast_plane r l _ _).trans ((ld_plane x0 r l 0 (by decide) _).trans (hx 0 r l))
theorem plane1_at : plane1 x0 (ix2 r l) = ((y r l 1 : ℝ) : EReal) :=
  (cast_plane r l _ _).trans ((ld_plane x0 r l 1 (by decide) _).trans (hx 1 r l))
theorem plane2_at : plane2 x0 (ix2 r l) = ((y r l 2 : ℝ) : EReal) :=
  (cast_plane r l _ _).trans ((ld_plane x0 r l 2 (by decide) _).trans (hx 2 r l))
theorem plane3_at : plane3 x0 (ix2 r l) = ((y r l 3 : ℝ) : EReal) :=
  (cast_plane r l _ _).trans ((ld_plane x0 r l 3 (by decide) _).trans (hx 3 r l))

theorem bTop_at : bTop x0 (ix2 r l) = ((Maths.top (y r l) : ℝ) : EReal) :=
  Soft.top_at _ _ _ _ _ (y r l) (plane0_at x0 y hx r l) (plane1_at x0 y hx r l) (plane2_at x0 y hx r l) (plane3_at x0 y hx r l)
theorem bE0_at : bE0 x0 (ix2 r l) = ((Maths.ex (y r l) 0 : ℝ) : EReal) := Soft.ex_at _ _ _ (y r l) 0 (plane0_at x0 y hx r l) (bTop_at x0 y hx r l)
theorem bE1_at : bE1 x0 (ix2 r l) = ((Maths.ex (y r l) 1 : ℝ) : EReal) := Soft.ex_at _ _ _ (y r l) 1 (plane1_at x0 y hx r l) (bTop_at x0 y hx r l)
theorem bE2_at : bE2 x0 (ix2 r l) = ((Maths.ex (y r l) 2 : ℝ) : EReal) := Soft.ex_at _ _ _ (y r l) 2 (plane2_at x0 y hx r l) (bTop_at x0 y hx r l)
theorem bE3_at : bE3 x0 (ix2 r l) = ((Maths.ex (y r l) 3 : ℝ) : EReal) := Soft.ex_at _ _ _ (y r l) 3 (plane3_at x0 y hx r l) (bTop_at x0 y hx r l)
theorem bZ_at : bZ x0 (ix2 r l) = ((Maths.Z (y r l) : ℝ) : EReal) :=
  Soft.total_at _ _ _ _ _ (y r l) (bE0_at x0 y hx r l) (bE1_at x0 y hx r l) (bE2_at x0 y hx r l) (bE3_at x0 y hx r l)
theorem bR_at : bR x0 (ix2 r l) = ((1 / Maths.Z (y r l) : ℝ) : EReal) := Soft.recip_at _ _ (y r l) (bZ_at x0 y hx r l)

include hc

theorem bNll_at : bNll x0 c (ix2 r l) = ((Maths.nll (y r l) (t r l) : ℝ) : EReal) :=
  Soft.nll_at _ _ _ _ _ (y r l) (t r l) (bTop_at x0 y hx r l) (Soft.log_at _ _ (y r l) (bZ_at x0 y hx r l))
    (Soft.pick_at _ _ _ _ _ _ _ _ (t r l) (y r l) (Soft.isT_at _ c _ _ (hc r l) 0 _ rfl) (Soft.isT_at _ c _ _ (hc r l) 1 _ rfl) (Soft.isT_at _ c _ _ (hc r l) 2 _ rfl)
      (plane0_at x0 y hx r l) (plane1_at x0 y hx r l) (plane2_at x0 y hx r l) (plane3_at x0 y hx r l))
    (Soft.mask_at _ _ _ (Soft.isT_at _ c _ _ (hc r l) 0 _ rfl))

theorem bProb_at : bProb x0 c (ix2 r l) = ((Maths.prob (y r l) (t r l) : ℝ) : EReal) := by
  refine (congrArg₂ (fun a b : EReal => a * b) (Soft.pick_at _ _ _ _ _ _ _ _ (t r l) (fun v => Maths.ex (y r l) v) (Soft.isT_at _ c _ _ (hc r l) 0 _ rfl)
    (Soft.isT_at _ c _ _ (hc r l) 1 _ rfl) (Soft.isT_at _ c _ _ (hc r l) 2 _ rfl)
      (bE0_at x0 y hx r l) (bE1_at x0 y hx r l) (bE2_at x0 y hx r l) (bE3_at x0 y hx r l)) (bR_at x0 y hx r l)).trans ?_
  exact (EReal.coe_mul _ _).symm

omit hx

theorem bMask_at : Soft.mask (F := Ideal) (Soft.isT c 0#32) (ix2 r l) = ((Maths.live (t r l) : ℝ) : EReal) :=
  Soft.mask_at _ _ _ (Soft.isT_at _ c _ _ (hc r l) 0 _ rfl)

/-- The sum over the codes has one term. -/
theorem accSelf_at (q : Vec Ideal S16 .f32) (n : ℕ) (h : n ≤ 16) (k : Fin 16) (hk : k.val = (f r l).val * 4 + (t r l).val) :
    accSelf c q n h (ix2 r l) = if k.val < n then (q (ix1 k) : EReal) else 0 := by
  induction n with
  | zero => exact (show _ = Ideal.ofBits .f32 0x00000000#32 from rfl).trans (by rw [Ideal.ofBits_zero_f32]; simp)
  | succ n ih =>
    have e : accSelf c q (n + 1) h (ix2 r l) = (accSelf c q n (Nat.le_of_succ_le h) (ix2 r l)
        + Scalar.select (Soft.isC c (BitVec.ofNat 32 n) (ix2 r l)) (q (ix1 (⟨n, h⟩ : Fin 16))) (Ideal.ofBits .f32 0x00000000#32) : EReal) := rfl
    rw [e, ih, Soft.isC_at _ c _ _ (hc r l) ⟨n, h⟩ _ rfl, Soft.bit_if, Ideal.ofBits_zero_f32, ← hk]
    show ((if k.val < n then (q (ix1 k) : EReal) else 0) + if k.val = n then (q (ix1 (⟨n, h⟩ : Fin 16)) : EReal) else 0) = _
    rcases Nat.lt_trichotomy k.val n with p | p | p
    · rw [if_pos p, if_neg (by omega), if_pos (by omega), add_zero]
    · rw [if_neg (by omega), if_pos p, if_pos (by omega), zero_add]
      exact congrArg q (congrArg ix1 (Fin.ext p.symm))
    · rw [if_neg (by omega), if_neg (by omega), if_neg (by omega), add_zero]

include hx

theorem accDot_at (w : Vec Ideal S16x4 .f32) (W : Fin 16 → Fin 4 → ℝ) (hw : ∀ k v, w (ix2 k v) = ((W k v : ℝ) : EReal)) (n : ℕ) (h : n ≤ 16) (k : Fin 16)
    (hk : k.val = (f r l).val * 4 + (t r l).val) :
    accDot x0 c w n h (ix2 r l) = if k.val < n then ((W k 0 * Maths.ex (y r l) 0 + W k 1 * Maths.ex (y r l) 1 + W k 2 * Maths.ex (y r l) 2 + W k 3 * Maths.ex (y r l) 3 : ℝ) : EReal) else 0 := by
  induction n with
  | zero => exact (show _ = Ideal.ofBits .f32 0x00000000#32 from rfl).trans (by rw [Ideal.ofBits_zero_f32]; simp)
  | succ n ih =>
    have e : accDot x0 c w (n + 1) h (ix2 r l) = (accDot x0 c w n (Nat.le_of_succ_le h) (ix2 r l)
        + Scalar.select (Soft.isC c (BitVec.ofNat 32 n) (ix2 r l)) (((w (ix2 (⟨n, h⟩ : Fin 16) (0 : Fin 4)) * bE0 x0 (ix2 r l) + w (ix2 (⟨n, h⟩ : Fin 16) (1 : Fin 4)) * bE1 x0 (ix2 r l))
          + w (ix2 (⟨n, h⟩ : Fin 16) (2 : Fin 4)) * bE2 x0 (ix2 r l)) + w (ix2 (⟨n, h⟩ : Fin 16) (3 : Fin 4)) * bE3 x0 (ix2 r l)) (Ideal.ofBits .f32 0x00000000#32) : EReal) := rfl
    rw [e, ih, Soft.isC_at _ c _ _ (hc r l) ⟨n, h⟩ _ rfl, Soft.bit_if, Ideal.ofBits_zero_f32, ← hk, hw, hw, hw, hw, bE0_at x0 y hx, bE1_at x0 y hx, bE2_at x0 y hx, bE3_at x0 y hx]
    simp only [← EReal.coe_mul, ← EReal.coe_add]
    show ((if k.val < n then (_ : EReal) else 0) + if k.val = n then (_ : EReal) else 0) = _
    rcases Nat.lt_trichotomy k.val n with p | p | p
    · rw [if_pos p, if_neg (by omega), if_pos (by omega), add_zero]
    · rw [if_neg (by omega), if_pos p, if_pos (by omega), zero_add]
      have : (⟨n, h⟩ : Fin 16) = k := Fin.ext p.symm
      rw [this]
    · rw [if_neg (by omega), if_neg (by omega), if_neg (by omega), add_zero]

end Block

/-- The number of a class before and a target. -/
def codeOf (f t : Fin 4) : Fin 16 := ⟨f.val * 4 + t.val, by have := f.isLt; have := t.isLt; omega⟩

section Lanes
variable (x0 : Vec Ideal S4x512x512 .bf16) (c : IVec S512x512 32) (y : Fin 512 → Fin 512 → Fin 4 → ℝ) (f t : Fin 512 → Fin 512 → Fin 4)
variable (hx : ∀ (v : Fin 4) (r l : Fin 512), x0 (ix3 v r l) = ((y r l v : ℝ) : EReal))
variable (hc : ∀ r l : Fin 512, c (ix2 r l) = Soft.code (f r l) (t r l))

theorem bSum_at (v : FVec Ideal S512x512 .f32) (g : Fin 512 → Fin 512 → EReal) (h : ∀ r l, v (ix2 r l) = g r l) : bSum v = ∑ r, ∑ l, g r l :=
  (Soft.sum_at v _ _ _ _).trans (Finset.sum_congr rfl fun r _ => Finset.sum_congr rfl fun l _ => h r l)

include hx hc

theorem genBlk_at (w : Vec Ideal S16x4 .f32) (q : Vec Ideal S16 .f32) (M : Fin 4 → Fin 4 → Fin 4 → ℝ)
    (hw : ∀ a b v, w (ix2 (codeOf a b) v) = ((Maths.weight M a b v : ℝ) : EReal)) (hq : ∀ a b, q (ix1 (codeOf a b)) = Maths.self M a b) (n : Fin 128) (r0 r1 : Fin 1) :
    genBlk x0 c w q (ix3 r0 r1 n) = if n.val = 0 then ∑ r, ∑ l, ((Maths.nll (y r l) (t r l) : ℝ) : EReal) else if n.val = 1 then ∑ r, ∑ l, ((Maths.live (t r l) : ℝ) : EReal)
      else if n.val = 2 then ∑ r, ∑ l, Maths.self M (f r l) (t r l) else if n.val = 3 then ∑ r, ∑ l, ((Maths.cross M (f r l) (t r l) (y r l) : ℝ) : EReal) else 0 := by
  let W : Fin 16 → Fin 4 → ℝ := fun k v => Maths.weight M ⟨k.val / 4, by have := k.isLt; omega⟩ ⟨k.val % 4, by omega⟩ v
  have hk : ∀ k : Fin 16, k = codeOf ⟨k.val / 4, by have := k.isLt; omega⟩ ⟨k.val % 4, by omega⟩ := fun k => Fin.ext (by show k.val = k.val / 4 * 4 + k.val % 4; omega)
  have hW : ∀ k v, w (ix2 k v) = ((W k v : ℝ) : EReal) := fun k v => (congrArg (fun k => w (ix2 k v)) (hk k)).trans (hw _ _ v)
  have hWc : ∀ a b v, W (codeOf a b) v = Maths.weight M a b v := fun a b v => by
    show Maths.weight M _ _ v = _
    congr 1
    · exact Fin.ext (by show (a.val * 4 + b.val) / 4 = a.val; have := b.isLt; omega)
    · exact Fin.ext (by show (a.val * 4 + b.val) % 4 = b.val; have := b.isLt; omega)
  unfold genBlk
  rw [bSum_at _ _ (fun r l => bNll_at x0 c y f t hx hc r l), bSum_at _ _ (fun r l => bMask_at c f t hc r l),
    bSum_at _ (fun r l => Maths.self M (f r l) (t r l)) (fun r l => ((accSelf_at c f t hc r l q 16 (Nat.le_refl 16) (codeOf (f r l) (t r l)) rfl).trans (if_pos (codeOf _ _).isLt)).trans (hq _ _)),
    bSum_at _ (fun r l => ((Maths.cross M (f r l) (t r l) (y r l) : ℝ) : EReal)) (fun r l => ?_)]
  · exact Soft.lanes_at _ _ _ _ _ n r0 r1
  · refine (congrArg₂ (fun a b : EReal => a * b) ((accDot_at x0 c y f t hx hc r l w W hW 16 (Nat.le_refl 16) (codeOf (f r l) (t r l)) rfl).trans (if_pos (codeOf _ _).isLt)) (bR_at x0 y hx r l)).trans ?_
    refine (EReal.coe_mul _ _).symm.trans (congrArg _ ?_)
    rw [hWc, hWc, hWc, hWc]
    unfold Maths.cross Maths.prob
    ring

theorem fastBlk_at (x2 : Vec Ideal S4 .f32) (n : Fin 128) (r0 r1 : Fin 1) :
    fastBlk x0 c x2 (ix3 r0 r1 n) = if n.val = 0 then ∑ r, ∑ l, ((Maths.nll (y r l) (t r l) : ℝ) : EReal) else if n.val = 1 then ∑ r, ∑ l, ((Maths.live (t r l) : ℝ) : EReal)
      else if n.val = 2 then (x2 (ix1 2) * ((262144 : ℝ) : EReal) : EReal) else if n.val = 3 then (x2 (ix1 0) * ((262144 : ℝ) : EReal) + x2 (ix1 1) * ∑ r, ∑ l, ((Maths.prob (y r l) (t r l) : ℝ) : EReal) : EReal) else 0 := by
  unfold fastBlk
  rw [bSum_at _ _ (fun r l => bNll_at x0 c y f t hx hc r l), bSum_at _ _ (fun r l => bMask_at c f t hc r l), bSum_at _ _ (fun r l => bProb_at x0 c y f t hx hc r l)]
  refine (Soft.lanes_at _ _ _ _ _ n r0 r1).trans ?_
  rw [← Maths.bits_262144]
  rfl

end Lanes

end Cert.KernelIdeal.Run

end
-- ==== Proof.Moves.lean ====
/- The reads of the lookups and of the one-element writes, each at one entry, for tables of any number of rows:
   a lookup along the row axis, a lookup of a row by a pair of words, and a write of one element per row at a pair of words. -/
module

public import Idealize.ShloMosaic.Lib.Pointwise
public import Idealize.ShloMosaic.Lib.Routing.OpsPair
public import Idealize.ShloMosaic.Lib.Routing.OpsSet

@[expose] public section

namespace Cert.Moves

open Idealize.ShloMosaic Idealize.ShloMosaic.Routing

/-- A number below `2 ^ 31` as a word, read signed, is the number. -/
theorem toInt_ofNat_small (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The same, cut at zero. -/
theorem toInt_toNat (n : ℕ) (h : n < 2 ^ 31) : (BitVec.ofNat 32 n).toInt.toNat = n := by
  rw [toInt_ofNat_small n h]; rfl

/-- The lookup of one element per row, the row axis shared. -/
def alongDims (N K : ℕ) (wf : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- At row `n` it reads the column the row's word names. -/
theorem gather_along {α : Type} {N K : ℕ} (wf) (x : (⟨2, ![N, K]⟩ : Shape).Idx → α) (idx : IVec ⟨3, ![N, 1, 1]⟩ 32) (n : Fin N) (k : Fin K)
    (hk : k.val < 2 ^ 31) (h : idx (ix3 n (0 : Fin 1) (0 : Fin 1)) = BitVec.ofNat 32 k.val) :
    Host.gather (alongDims N K wf) x idx (ix2 n (0 : Fin 1)) = x (ix2 n k) := by
  unfold Host.gather
  congr 1
  funext a
  refine Fin.ext ?_
  change (alongDims N K wf).start _ idx a + (alongDims N K wf).batchCoord _ a + (alongDims N K wf).offCoord _ a = _
  match a with
  | ⟨0, _⟩ =>
    have p1 : (alongDims N K wf).start (ix2 n (0 : Fin 1)) idx 0 = 0 := GatherDims.start_batching _ _ _ _ (show (0 : Fin 2) ∈ [(0 : Fin 2)] by decide)
    have p2 : (alongDims N K wf).batchCoord (ix2 n (0 : Fin 1)) 0 = n.val := rfl
    have p3 : (alongDims N K wf).offCoord (ix2 n (0 : Fin 1)) 0 = 0 :=
      GatherDims.offCoord_eq_zero _ _ _ (by rw [GatherDims.mem_sKept]; exact fun q => q.2 (show (0 : Fin 2) ∈ [(0 : Fin 2)] by decide))
    exact (congrArg₂ (· + ·) (congrArg₂ (· + ·) p1 p2) p3).trans (by simp [ix2])
  | ⟨1, _⟩ =>
    have e : ∀ p, (alongDims N K wf).siIdx (ix2 n (0 : Fin 1)) ⟨0, p⟩ = ix3 n (0 : Fin 1) (0 : Fin 1) := by
      intro p
      funext b
      match b with
      | ⟨0, _⟩ => rfl
      | ⟨1, _⟩ => rfl
      | ⟨2, _⟩ => rfl
    have h' : (idx ((alongDims N K wf).siIdx (ix2 n (0 : Fin 1)) ⟨0, Nat.one_pos⟩)).toInt.toNat = k.val :=
      (congrArg (fun q => (idx q).toInt.toNat) (e _)).trans (by rw [h, toInt_toNat _ hk])
    have p1 : (alongDims N K wf).start (ix2 n (0 : Fin 1)) idx 1 = k.val := by
      unfold GatherDims.start
      refine (dif_pos (show (1 : Fin 2) ∈ [(1 : Fin 2)] by decide)).trans ?_
      exact (congrArg (min · (K - 1)) h').trans (Nat.min_eq_left (by have := k.isLt; omega))
    have p2 : (alongDims N K wf).batchCoord (ix2 n (0 : Fin 1)) 1 = 0 := GatherDims.batchCoord_eq_zero _ _ _ (show (1 : Fin 2) ∉ [(0 : Fin 2)] by decide)
    have p3 : (alongDims N K wf).offCoord (ix2 n (0 : Fin 1)) 1 = 0 :=
      GatherDims.offCoord_eq_zero _ _ _ (by rw [GatherDims.mem_sKept]; exact fun q => q.1 (show (1 : Fin 2) ∈ [(1 : Fin 2)] by decide))
    exact (congrArg₂ (· + ·) (congrArg₂ (· + ·) p1 p2) p3).trans (by simp [ix2])

/-- The lookup of a row of `C` elements by a pair of words. -/
def rowDims (A B C N : ℕ) (wf : GatherDims.WF ⟨3, ![A, B, C]⟩ ⟨2, ![N, 2]⟩ ⟨2, ![N, C]⟩ [1] [0, 1] [] [0, 1] [] 1 ![1, 1, C]) :
    GatherDims ⟨3, ![A, B, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

/-- At `(n, c)` it reads element `c` of the row the two words name. -/
theorem gather_row {α : Type} {A B C N : ℕ} (wf) (x : (⟨3, ![A, B, C]⟩ : Shape).Idx → α) (idx : IVec ⟨2, ![N, 2]⟩ 32) (n : Fin N) (a : Fin A) (b : Fin B) (c : Fin C)
    (ha : a.val < 2 ^ 31) (hb : b.val < 2 ^ 31) (h0 : idx (ix2 n (0 : Fin 2)) = BitVec.ofNat 32 a.val) (h1 : idx (ix2 n (1 : Fin 2)) = BitVec.ofNat 32 b.val) :
    Host.gather (rowDims A B C N wf) x idx (ix2 n c) = x (ix3 a b c) := by
  unfold Host.gather
  congr 1
  have e0 : ∀ p, (rowDims A B C N wf).siIdx (ix2 n c) ⟨0, p⟩ = ix2 n (0 : Fin 2) := by
    intro p
    funext b
    match b with
    | ⟨0, _⟩ => rfl
    | ⟨1, _⟩ => rfl
  have e1 : ∀ p, (rowDims A B C N wf).siIdx (ix2 n c) ⟨1, p⟩ = ix2 n (1 : Fin 2) := by
    intro p
    funext b
    match b with
    | ⟨0, _⟩ => rfl
    | ⟨1, _⟩ => rfl
  funext i
  refine Fin.ext ?_
  change (rowDims A B C N wf).start _ idx i + (rowDims A B C N wf).batchCoord _ i + (rowDims A B C N wf).offCoord _ i = _
  have bz : ∀ i, (rowDims A B C N wf).batchCoord (ix2 n c) i = 0 := fun i => GatherDims.batchCoord_eq_zero _ _ _ List.not_mem_nil
  match i with
  | ⟨0, _⟩ =>
    have h' : (idx ((rowDims A B C N wf).siIdx (ix2 n c) ⟨0, Nat.two_pos⟩)).toInt.toNat = a.val :=
      (congrArg (fun q => (idx q).toInt.toNat) (e0 _)).trans (by rw [h0, toInt_toNat _ ha])
    have p1 : (rowDims A B C N wf).start (ix2 n c) idx 0 = a.val := by
      unfold GatherDims.start
      refine (dif_pos (show (0 : Fin 3) ∈ [(0 : Fin 3), 1] by decide)).trans ?_
      exact (congrArg (min · (A - 1)) h').trans (Nat.min_eq_left (by have := a.isLt; omega))
    have p3 : (rowDims A B C N wf).offCoord (ix2 n c) 0 = 0 :=
      GatherDims.offCoord_eq_zero _ _ _ (by rw [GatherDims.mem_sKept]; exact fun q => q.1 (show (0 : Fin 3) ∈ [(0 : Fin 3), 1] by decide))
    exact (congrArg₂ (· + ·) (congrArg₂ (· + ·) p1 (bz 0)) p3).trans (by simp [ix3])
  | ⟨1, _⟩ =>
    have h' : (idx ((rowDims A B C N wf).siIdx (ix2 n c) ⟨1, Nat.one_lt_two⟩)).toInt.toNat = b.val :=
      (congrArg (fun q => (idx q).toInt.toNat) (e1 _)).trans (by rw [h1, toInt_toNat _ hb])
    have p1 : (rowDims A B C N wf).start (ix2 n c) idx 1 = b.val := by
      unfold GatherDims.start
      refine (dif_pos (show (1 : Fin 3) ∈ [(0 : Fin 3), 1] by decide)).trans ?_
      exact (congrArg (min · (B - 1)) h').trans (Nat.min_eq_left (by have := b.isLt; omega))
    have p3 : (rowDims A B C N wf).offCoord (ix2 n c) 1 = 0 :=
      GatherDims.offCoord_eq_zero _ _ _ (by rw [GatherDims.mem_sKept]; exact fun q => q.1 (show (1 : Fin 3) ∈ [(0 : Fin 3), 1] by decide))
    exact (congrArg₂ (· + ·) (congrArg₂ (· + ·) p1 (bz 1)) p3).trans (by simp [ix3])
  | ⟨2, _⟩ =>
    have p1 : (rowDims A B C N wf).start (ix2 n c) idx 2 = 0 := by
      unfold GatherDims.start
      exact dif_neg (show (2 : Fin 3) ∉ [(0 : Fin 3), 1] by decide)
    have p3 : (rowDims A B C N wf).offCoord (ix2 n c) 2 = c.val := rfl
    exact (congrArg₂ (· + ·) (congrArg₂ (· + ·) p1 (bz 2)) p3).trans (by simp [ix3])

/-- The write of one element per row at a pair of words. -/
def cellDims (A B N : ℕ) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ where
  updateWindowDims := []
  insertedWindowDims := [0, 1]
  scatterDimsToOperandDims := [0, 1]
  indexVectorDim := 1
  wf := wf

/-- Update `k` lands at the cell its two words name. -/
theorem cell_lands {A B N : ℕ} (wf) (idx : IVec ⟨2, ![N, 2]⟩ 32) (k : Fin N) (r : Fin A) (c : Fin B) :
    (cellDims A B N wf).resultIdx? (ix1 k) idx = some (ix2 r c)
      ↔ (idx (ix2 k (0 : Fin 2))).toInt = r.val ∧ (idx (ix2 k (1 : Fin 2))).toInt = c.val := by
  have e0 : ∀ p, (cellDims A B N wf).siIdx (ix1 k) ⟨0, p⟩ = ix2 k (0 : Fin 2) := by
    intro p
    funext b
    match b with
    | ⟨0, _⟩ => rfl
    | ⟨1, _⟩ => rfl
  have e1 : ∀ p, (cellDims A B N wf).siIdx (ix1 k) ⟨1, p⟩ = ix2 k (1 : Fin 2) := by
    intro p
    funext b
    match b with
    | ⟨0, _⟩ => rfl
    | ⟨1, _⟩ => rfl
  have s0 : (cellDims A B N wf).start (ix1 k) idx 0 = (idx (ix2 k (0 : Fin 2))).toInt := by
    unfold ScatterDims.start
    refine (dif_pos (show (0 : Fin 2) ∈ [(0 : Fin 2), 1] by decide)).trans ?_
    exact congrArg (fun q => (idx q).toInt) (e0 _)
  have s1 : (cellDims A B N wf).start (ix1 k) idx 1 = (idx (ix2 k (1 : Fin 2))).toInt := by
    unfold ScatterDims.start
    refine (dif_pos (show (1 : Fin 2) ∈ [(0 : Fin 2), 1] by decide)).trans ?_
    exact congrArg (fun q => (idx q).toInt) (e1 _)
  have w : ∀ a, (cellDims A B N wf).window (ix1 k) a = 0 := by
    intro a
    unfold ScatterDims.window
    exact dif_neg (by
      intro q
      have := (List.mem_filter.1 q).2
      revert this
      match a with
      | ⟨0, _⟩ => exact fun q => of_decide_eq_true q (show (0 : Fin 2) ∈ [(0 : Fin 2), 1] by decide)
      | ⟨1, _⟩ => exact fun q => of_decide_eq_true q (show (1 : Fin 2) ∈ [(0 : Fin 2), 1] by decide))
  rw [show ix2 r c = ValueIdx.ix2 r c from by funext a; match a with | ⟨0, _⟩ => rfl | ⟨1, _⟩ => rfl]
  refine (resultIdx?_ix2 (cellDims A B N wf) (ix1 k) idx r c).trans ?_
  rw [s0, s1, w, w]
  simp

/-- One write per row, row `k`'s at column `t k` of row `k`: at `(r, c)` the new element where `c` is the row's column, else the old. -/
theorem scatter_cells {α : Type} {A B : ℕ} (hA : A ≤ 2 ^ 31) (wf) (x : (⟨2, ![A, B]⟩ : Shape).Idx → α) (idx : IVec ⟨2, ![A, 2]⟩ 32) (upd : (⟨1, ![A]⟩ : Shape).Idx → α)
    (t : Fin A → ℕ) (ht : ∀ k, t k < 2 ^ 31) (h0 : ∀ k : Fin A, idx (ix2 k (0 : Fin 2)) = BitVec.ofNat 32 k.val) (h1 : ∀ k : Fin A, idx (ix2 k (1 : Fin 2)) = BitVec.ofNat 32 (t k))
    (r : Fin A) (c : Fin B) :
    Host.scatter (cellDims A B A wf) (fun _ b => b) x idx upd (ix2 r c) = if c.val = t r then upd (ix1 r) else x (ix2 r c) := by
  have key : ∀ k : Fin A, (cellDims A B A wf).resultIdx? (ix1 k) idx = some (ix2 r c) ↔ k = r ∧ c.val = t r := by
    intro k
    rw [cell_lands, h0, h1, toInt_ofNat_small _ (lt_of_lt_of_le k.isLt hA), toInt_ofNat_small _ (ht k)]
    constructor
    · rintro ⟨p, q⟩
      have : k = r := Fin.ext (by omega)
      subst this
      exact ⟨rfl, by omega⟩
    · rintro ⟨rfl, q⟩
      exact ⟨rfl, by omega⟩
  have all : ∀ k : (⟨1, ![A]⟩ : Shape).Idx, k = ix1 (k 0) := by
    intro k
    funext a
    match a with
    | ⟨0, _⟩ => rfl
  by_cases hc : c.val = t r
  · rw [if_pos hc]
    refine scatter_set_hit _ x idx upd _ _ (fun k hk => ?_) (ix1 r) ((key r).2 ⟨rfl, hc⟩)
    rw [all k] at hk ⊢
    exact congrArg (fun q => upd (ix1 q)) ((key _).1 hk).1
  · rw [if_neg hc]
    refine scatter_set_miss _ x idx upd _ (fun k hk => ?_)
    rw [all k] at hk
    exact hc ((key _).1 hk).2

end Cert.Moves

end
-- ==== Proof.Folds.lean ====
/- The reductions along a row of four, and over a whole array, each at one entry, for any number of rows. -/
module

public import Idealize.ShloMosaic.Lib.Pointwise
public import Idealize.ShloMosaic.Lib.IdealHost
public import Idealize.ShloMosaic.PureOps.Ideal.Laws
public import Idealize.ShloMosaic.PureOps.Reduce
public import proofs.«01_k».proof.Proof.Maths

@[expose] public section

namespace Cert.Folds

open Idealize.ShloMosaic

theorem lift_row {N K : ℕ} (h : (⟨2, ![N, K]⟩ : Shape).Reduces [1] (⟨1, ![N]⟩ : Shape)) (n : Fin N) (k : Fin ((⟨2, ![N, K]⟩ : Shape).size 1)) :
    h.lift (ix1 n) k = ix2 n (⟨k.val, k.isLt⟩ : Fin K) := by
  funext c
  match c with
  | ⟨0, _⟩ => rfl
  | ⟨1, _⟩ => rfl

/-- The host's sum of a row of four. -/
theorem rowSum {N : ℕ} (x : FVec Ideal ⟨2, ![N, 4]⟩ .f32) (h' : (⟨2, ![N, 4]⟩ : Shape).ReducesTo [1] (⟨1, ![N]⟩ : Shape))
    (h : (⟨2, ![N, 4]⟩ : Shape).Reduces [1] (⟨1, ![N]⟩ : Shape)) (hu : 0 < (⟨0, ![]⟩ : Shape).numel) (n : Fin N) :
    Host.reduceAdd x (constant (⟨0, ![]⟩ : Shape) .f32 0x00000000#32) h' hu (ix1 n) = x (ix2 n 0) + x (ix2 n 1) + x (ix2 n 2) + x (ix2 n 3) := by
  rw [ValueIdx.hostReduceAdd_apply, Ideal.hostReduceAdd_single h' h]
  have e : ∀ k : Fin ((⟨2, ![N, 4]⟩ : Shape).size 1), x (h.lift (ix1 n) k) = x (ix2 n (⟨k.val, k.isLt⟩ : Fin 4)) := fun k => congrArg x (lift_row h n k)
  rw [Finset.sum_congr rfl fun k _ => e k]
  have z : (constant (⟨0, ![]⟩ : Shape) .f32 0x00000000#32 : FVec Ideal _ .f32) (Shape.Idx.first hu) = 0 := Ideal.ofBits_zero_f32
  rw [z, zero_add]
  exact Fin.sum_univ_four (fun k : Fin 4 => x (ix2 n k))

/-- The host's largest of a row of four, from minus infinity. -/
theorem rowMax {N : ℕ} (x : FVec Ideal ⟨2, ![N, 4]⟩ .f32) (h' : (⟨2, ![N, 4]⟩ : Shape).ReducesTo [1] (⟨1, ![N]⟩ : Shape))
    (h : (⟨2, ![N, 4]⟩ : Shape).Reduces [1] (⟨1, ![N]⟩ : Shape)) (hu : 0 < (⟨0, ![]⟩ : Shape).numel) (n : Fin N) :
    Host.reduce FloatOps.maximumf x (constant (⟨0, ![]⟩ : Shape) .f32 0xFF800000#32) h' hu (ix1 n)
      = (max (max (x (ix2 n 0)) (x (ix2 n 1))) (max (x (ix2 n 2)) (x (ix2 n 3))) : EReal) := by
  rw [Host.reduce_eq_fold_single FloatOps.maximumf x _ h' h hu]
  have hf : (x ∘ h.lift (ix1 n)) = fun k : Fin 4 => x (ix2 n k) := funext fun k => congrArg x (lift_row h n k)
  refine (congrArg (fun f => Finset.fold (max : EReal → EReal → EReal) (Ideal.ofBits .f32 0xFF800000#32) f (Finset.univ : Finset (Fin 4))) hf).trans ?_
  have u : (Finset.univ : Finset (Fin 4)) = {0, 1, 2, 3} := by decide
  rw [u, Maths.bits_bot]
  simp [max_assoc]

/-- The same where a row holds real numbers, compared once more with minus infinity. -/
theorem rowTop {N : ℕ} (x : FVec Ideal ⟨2, ![N, 4]⟩ .f32) (y : Fin N → Fin 4 → ℝ) (hx : ∀ n v, x (ix2 n v) = ((y n v : ℝ) : EReal))
    (b : FVec Ideal ⟨1, ![N]⟩ .f32) (hb : ∀ n, b (ix1 n) = (⊥ : EReal)) (h' : (⟨2, ![N, 4]⟩ : Shape).ReducesTo [1] (⟨1, ![N]⟩ : Shape))
    (h : (⟨2, ![N, 4]⟩ : Shape).Reduces [1] (⟨1, ![N]⟩ : Shape)) (hu : 0 < (⟨0, ![]⟩ : Shape).numel) (n : Fin N) :
    maximumf b (Host.reduce FloatOps.maximumf x (constant (⟨0, ![]⟩ : Shape) .f32 0xFF800000#32) h' hu) (ix1 n) = (Maths.top (y n) : EReal) := by
  refine (congrArg₂ (max : EReal → EReal → EReal) (hb n) (rowMax x h' h hu n)).trans ?_
  rw [hx, hx, hx, hx, Maths.top, Maths.coe_max, Maths.coe_max, Maths.coe_max]
  exact max_eq_right bot_le

/-- The host's sum of a vector. -/
theorem vecSum {N : ℕ} (x : FVec Ideal ⟨1, ![N]⟩ .f32) (h' : (⟨1, ![N]⟩ : Shape).ReducesTo [0] (⟨0, ![]⟩ : Shape))
    (hu : 0 < (⟨0, ![]⟩ : Shape).numel) (j : (⟨0, ![]⟩ : Shape).Idx) :
    Host.reduceAdd x (constant (⟨0, ![]⟩ : Shape) .f32 0x00000000#32) h' hu j = ∑ n : Fin N, x (ix1 n) := by
  rw [ValueIdx.hostReduceAdd_apply, Ideal.hostReduceAdd_total h' (fun b => b.elim0)]
  have z : (constant (⟨0, ![]⟩ : Shape) .f32 0x00000000#32 : FVec Ideal _ .f32) (Shape.Idx.first hu) = 0 := Ideal.ofBits_zero_f32
  rw [z, zero_add]
  refine Finset.sum_bij' (fun i _ => i 0) (fun n _ => ix1 n) (fun _ _ => Finset.mem_univ _) (fun _ _ => Finset.mem_univ _) ?_ (fun _ _ => rfl) ?_
  · intro i _; funext a; match a with | ⟨0, _⟩ => rfl
  · intro i _; exact congrArg x (by funext a; match a with | ⟨0, _⟩ => rfl)

/-- The host's sum of an array of rows. -/
theorem tableSum {N K : ℕ} (x : FVec Ideal ⟨2, ![N, K]⟩ .f32) (h' : (⟨2, ![N, K]⟩ : Shape).ReducesTo [0, 1] (⟨0, ![]⟩ : Shape))
    (hu : 0 < (⟨0, ![]⟩ : Shape).numel) (j : (⟨0, ![]⟩ : Shape).Idx) :
    Host.reduceAdd x (constant (⟨0, ![]⟩ : Shape) .f32 0x00000000#32) h' hu j = ∑ n : Fin N, ∑ k : Fin K, x (ix2 n k) := by
  rw [ValueIdx.hostReduceAdd_apply, Ideal.hostReduceAdd_total h' (fun b => b.elim0)]
  have z : (constant (⟨0, ![]⟩ : Shape) .f32 0x00000000#32 : FVec Ideal _ .f32) (Shape.Idx.first hu) = 0 := Ideal.ofBits_zero_f32
  rw [z, zero_add, ← Finset.sum_product']
  refine Finset.sum_bij' (fun i _ => (i 0, i 1)) (fun n _ => ix2 n.1 n.2) (fun _ _ => Finset.mem_univ _) (fun _ _ => Finset.mem_univ _) ?_ (fun _ _ => rfl) ?_
  · intro i _; funext a; match a with | ⟨0, _⟩ => rfl | ⟨1, _⟩ => rfl
  · intro i _; exact congrArg x (by funext a; match a with | ⟨0, _⟩ => rfl | ⟨1, _⟩ => rfl)

/-- A sum over the entries of a flattened array, by row and column. -/
theorem sum_flat {α : Type*} [AddCommMonoid α] {A B N : ℕ} (hN : N = A * B) (f : Fin N → α) (g : Fin A → Fin B → α)
    (h : ∀ (a : Fin A) (b : Fin B) (n : Fin N), n.val = a.val * B + b.val → f n = g a b) : ∑ n, f n = ∑ a, ∑ b, g a b := by
  subst hN
  rw [← Fintype.sum_prod_type', ← (finProdFinEquiv (m := A) (n := B)).sum_comp]
  refine Finset.sum_congr rfl fun p _ => h p.1 p.2 _ ?_
  show p.2.val + B * p.1.val = _
  rw [Nat.add_comm, Nat.mul_comm]

end Cert.Folds

end
-- ==== Proof.KernelIdeal.Host.lean ====
/- The kernel program's host values over the real numbers: the table, the one-value constants, the codes and the tail. -/
module

public import proofs.«01_k».proof.Proof.KernelIdeal.Reads
public import proofs.«01_k».proof.Proof.KernelIdeal.Blocks
public import proofs.«01_k».proof.Proof.Moves
public import proofs.«01_k».proof.Proof.Folds
public import Idealize.ShloMosaic.Lib.Pointwise
public import Idealize.ShloMosaic.Lib.ReduceAll
public import Idealize.ShloMosaic.Lib.Routing.OpsPair

@[expose] public section

set_option maxRecDepth 16384

noncomputable section

namespace Cert.KernelIdeal.Host

open Idealize.ShloMosaic Idealize.ShloMosaic.TcCoe Idealize.SL.Sem
open Cert.KernelIdeal Cert.KernelIdeal.Gen Cert.KernelIdeal.Run

theorem minus_at {S : Shape} (a b : V Ideal S) (i : S.Idx) : subf a b i = (a i : EReal) - (b i : EReal) := rfl
theorem plus_at {S : Shape} (a b : V Ideal S) (i : S.Idx) : addf a b i = (a i : EReal) + (b i : EReal) := rfl
theorem times_at {S : Shape} (a b : V Ideal S) (i : S.Idx) : mulf a b i = (a i : EReal) * (b i : EReal) := rfl
theorem over_at {S : Shape} (a b : V Ideal S) (i : S.Idx) : Host.divf a b i = Ideal.div (a i) (b i) := rfl

/-- The smoothing. -/
theorem smooth_at (j : S_.Idx) : (smooth (F := Ideal)) j = (Maths.s : EReal) := by
  have z : (smooth (F := Ideal)) j = Ideal.ofBits .f32 0x3F800000#32 - Ideal.pow (Ideal.ofBits .f32 0x3F666666#32) (Ideal.ofBits .f32 0x3B000000#32) := rfl
  rw [z, Maths.bits_1, Maths.bits_base, Maths.bits_512th, Ideal.pow_coe_coe, ← EReal.coe_sub]
  rfl

theorem corner_at (M : V Ideal S5x5x5) (a b c : Fin 4) : corner M (ix3 a b c) = M (ix3 a.castSucc b.castSucc c.castSucc) := by
  pointwise [corner]
  rfl

theorem sheet_at (K : V Ideal S4x4x4) (a b v : Fin 4) : shapeCast S16x4 K shapeCasts_S4x4x4_S16x4 (ix2 (codeOf a b) v) = K (ix3 a b v) :=
  shapeCast_apply K shapeCasts_S4x4x4_S16x4 (ix2 (codeOf a b) v) (ix3 a b v) (by
    rw [Shape.rowMajor_val_two, Shape.rowMajor_val_three]
    show _ = (a.val * 4 + b.val) * 4 + v.val
    rfl)

/-! ### The words -/

theorem column_at (k : Fin 16) : column (ix1 k) = BitVec.ofNat 32 (k.val % 4) := by
  revert k; decide

theorem word_wrap (a : BitVec 32) (v : IVec S16 32) (k : Fin 16) (n : ℕ) (hn : n < 16) (h : v (ix1 k) = BitVec.ofNat 32 n) : wrap a v (ix1 k) = BitVec.ofNat 32 n := by
  have z : ∀ w : BitVec 32, Scalar.select (IntOp.cmpi .slt (v (ix1 k)) 0#32) w (v (ix1 k)) = BitVec.ofNat 32 n := fun w => by
    rw [h]; exact Routing.wrap_of_lt _ _ (by rw [BitVec.toNat_ofNat]; omega)
  exact z _

theorem cells_0 (a b : IVec S16 32) (k : Fin 16) : cells a b (ix2 k 0) = a (ix1 k) := by
  pointwise [cells]
theorem cells_1 (a b : IVec S16 32) (k : Fin 16) : cells a b (ix2 k 1) = b (ix1 k) := by
  pointwise [cells]

/-! ### The table -/

theorem reduces_row : S16x4.Reduces [1] S16 := by decide

theorem rowSum_at (Q : V Ideal S16x4) (k : Fin 16) : rowSums Q (ix1 k) = Q (ix2 k 0) + Q (ix2 k 1) + Q (ix2 k 2) + Q (ix2 k 3) :=
  Folds.rowSum Q reducesTo_S16x4_S16_d1 reduces_row h_S_ k

theorem wlogw_at (A : V Ideal S16x4) (i : S16x4.Idx) (w : ℝ) (h : A i = (w : EReal)) : wlogw A i = Maths.q w := by
  have z : wlogw A i = (Scalar.select (IntOp.ori (Ideal.cmp .une (A i) (Ideal.ofBits .f32 0x00000000#32)) (Ideal.cmp .une (A i) (A i)))
      ((A i : EReal) * Ideal.log (A i)) (Ideal.ofBits .f32 0x00000000#32) : EReal) := rfl
  rw [z, h, Ideal.ofBits_zero_f32]
  exact Maths.select_q w

section Table
variable (M : V Ideal S5x5x5) (m : Fin 4 → Fin 4 → Fin 4 → ℝ)
  (hM : ∀ a b c : Fin 4, M (ix3 (n0 := 5) (n1 := 5) (n2 := 5) a.castSucc b.castSucc c.castSucc) = ((m a b c : ℝ) : EReal))
include hM

theorem scaled_at (a b v : Fin 4) : scaled M (ix2 (codeOf a b) v) = ((Maths.s * m a b v : ℝ) : EReal) := by
  have z : broadcastInDim S16x4 ![] bcast_S_S16x4 (smooth (F := Ideal)) (ix2 (codeOf a b) v) = (Maths.s : EReal) := smooth_at _
  rw [scaled, times_at, z, sheet_at, corner_at, hM, ← EReal.coe_mul]

omit hM in
theorem setRows_at (Q : V Ideal S16x4) (k : Fin 16) (v : Fin 4) :
    setRows Q column (ix2 k v) = if v.val = k.val % 4 then slack Q (ix1 k) else Q (ix2 k v) := by
  have hw : (16 : ℕ) ≤ 2 ^ 31 := by norm_num
  have h0 : ∀ k : Fin 16, cells (wrap 16#32 row) (wrap 4#32 column) (ix2 k 0) = BitVec.ofNat 32 k.val := fun k => (cells_0 _ _ k).trans (word_wrap _ row k _ k.isLt rfl)
  have h1 : ∀ k : Fin 16, cells (wrap 16#32 row) (wrap 4#32 column) (ix2 k 1) = BitVec.ofNat 32 (k.val % 4) := fun k =>
    (cells_1 _ _ k).trans (word_wrap _ column k _ (by omega) (column_at k))
  have ht : ∀ k : Fin 16, k.val % 4 < 2 ^ 31 := fun k => by omega
  unfold setRows
  generalize cells (wrap 16#32 row) (wrap 4#32 column) = C at h0 h1 ⊢
  generalize slack Q = U
  exact Moves.scatter_cells hw scatter_S16x4_S16x2_S16_n_01_01_1_wf Q C U (fun k => k.val % 4) ht h0 h1 k v

theorem table_at (a b v : Fin 4) : table M (ix2 (codeOf a b) v) = ((Maths.weight m a b v : ℝ) : EReal) := by
  refine (setRows_at (scaled M) (codeOf a b) v).trans ?_
  · have d := scaled_at M m hM a b
    have e : (codeOf a b).val % 4 = b.val := by show (a.val * 4 + b.val) % 4 = b.val; have := b.isLt; omega
    rw [e]
    unfold Maths.weight
    by_cases h : v = b
    · have z : slack (scaled M) (ix1 (codeOf a b)) = (Ideal.ofBits .f32 0x3F800000#32 : EReal) - (rowSums (scaled M) (ix1 (codeOf a b)) : EReal) := rfl
      rw [if_pos (congrArg Fin.val h), if_pos h, z, rowSum_at, d, d, d, d, ← EReal.coe_add, ← EReal.coe_add, ← EReal.coe_add, Maths.bits_1, ← EReal.coe_sub]
    · rw [if_neg (fun q => h (Fin.ext q)), if_neg h, d]

theorem self_at (a b : Fin 4) : rowSums (wlogw (table M)) (ix1 (codeOf a b)) = Maths.self m a b := by
  have d := fun v => wlogw_at (table M) _ _ (table_at M m hM a b v)
  rw [rowSum_at, d, d, d, d]
  rfl

theorem first_at (j : S_.Idx) : first (corner M) j = ((m 0 0 0 : ℝ) : EReal) := by
  have z : first (corner M) j = corner M (ix3 0 0 0) := by pointwise [first]
  rw [z, corner_at]
  exact hM 0 0 0

theorem unit_at (j : S_.Idx) : mulf smooth (first (corner M)) j = ((Maths.s * m 0 0 0 : ℝ) : EReal) := by
  rw [times_at, smooth_at, first_at M m hM, ← EReal.coe_mul]

/-- The bit is one where the table has one value, else zero. -/
theorem flatBit_at (j : S_.Idx) : flatBit (corner M) j = if ∀ a b c, m a b c = m 0 0 0 then 1#1 else 0#1 := by
  have z : ∀ a b c : Fin 4, cmpf .oeq (corner M) (broadcastInDim S4x4x4 ![] bcast_S_S4x4x4 (first (corner M))) (ix3 a b c) = Ideal.cmp .oeq ((m a b c : ℝ) : EReal) ((m 0 0 0 : ℝ) : EReal) := fun a b c => by
    have y : ∀ f : V Ideal S_, cmpf .oeq (corner M) (broadcastInDim S4x4x4 ![] bcast_S_S4x4x4 f) (ix3 a b c) = Ideal.cmp .oeq (corner M (ix3 a b c)) (f (fun k => k.elim0)) := fun f =>
      congrArg (fun i => Ideal.cmp .oeq (corner M (ix3 a b c)) (f i)) (funext fun k => k.elim0)
    rw [y, first_at M m hM, corner_at, hM]
  have sub : Subsingleton S_.Idx := ⟨fun a b => funext fun k => k.elim0⟩
  by_cases h : ∀ a b c, m a b c = m 0 0 0
  · rw [if_pos h]
    refine Host.reduce_andi_one _ _ _ _ _ rfl fun i => ?_
    have e : i = ix3 (i 0) (i 1) (i 2) := by
      funext a
      match a with
      | ⟨0, _⟩ => rfl
      | ⟨1, _⟩ => rfl
      | ⟨2, _⟩ => rfl
    rw [e]
    refine (z _ _ _).trans ?_
    have k : ∀ x y : ℝ, x = y → Ideal.cmp .oeq (x : EReal) (y : EReal) = 1#1 := fun x y e => by subst e; simp [Ideal.cmp]
    exact k _ _ (h _ _ _)
  · rw [if_neg h]
    have n : flatBit (corner M) j ≠ 1#1 := fun e => h fun a b c => by
      have w := (z a b c).symm.trans (Host.reduce_andi_all _ _ _ _ j e (ix3 a b c))
      have w' : ((m a b c : ℝ) : EReal) = ((m 0 0 0 : ℝ) : EReal) := by
        by_contra hne
        simp [Ideal.cmp, hne] at w
      exact_mod_cast w'
    generalize flatBit (corner M) j = w at n
    revert w; decide

end Table

/-! ### The constants of one value -/

section One
variable (A : V Ideal S_) (w : ℝ) (hA : ∀ j, A j = (w : EReal)) (j : S_.Idx)
include hA

theorem less_at (k : BitVec 32) (r : ℝ) (hk : Ideal.ofBits .f32 k = (r : EReal)) : less k A j = ((1 - r * w : ℝ) : EReal) := by
  have z : less k A j = Ideal.ofBits .f32 0x3F800000#32 - Ideal.ofBits .f32 k * (A j : EReal) := rfl
  rw [z, hA, hk, Maths.bits_1, ← EReal.coe_mul, ← EReal.coe_sub]

theorem wlogw1_at : wlogw1 A A j = Maths.q w := by
  have z : wlogw1 A A j = (Scalar.select (IntOp.ori (Ideal.cmp .une (A j) (Ideal.ofBits .f32 0x00000000#32)) (Ideal.cmp .une (A j) (A j)))
      ((A j : EReal) * Ideal.log (A j)) (Ideal.ofBits .f32 0x00000000#32) : EReal) := rfl
  rw [z, hA, Ideal.ofBits_zero_f32]
  exact Maths.select_q w

end One

section One
variable (A : V Ideal S_) (w : ℝ) (hA : ∀ j, A j = (w : EReal))
include hA

theorem self1_at (j : S_.Idx) : self1 A j = ((3 : ℝ) : EReal) * Maths.q w + Maths.q (1 - 4 * w) := by
  have z : self1 A j = Ideal.ofBits .f32 0x40400000#32 * (wlogw1 A A j : EReal) + (wlogw1 (less 0x40800000#32 A) (less 0x40800000#32 A) j : EReal) := rfl
  rw [z, wlogw1_at A w hA, wlogw1_at (less 0x40800000#32 A) (1 - 4 * w) (fun j => less_at A w hA j _ 4 Maths.bits_4), Maths.bits_3]

theorem consts_0 : consts A (ix1 0) = (w : EReal) := by
  have z : consts A (ix1 0) = A ix0 := by pointwise [consts]
  rw [z, hA]
theorem consts_1 : consts A (ix1 1) = ((1 - 5 * w : ℝ) : EReal) := by
  have z : consts A (ix1 1) = less 0x40A00000#32 A ix0 := by pointwise [consts]
  rw [z, less_at A w hA _ _ 5 Maths.bits_5]
theorem consts_2 : consts A (ix1 2) = ((3 : ℝ) : EReal) * Maths.q w + Maths.q (1 - 4 * w) := by
  have z : consts A (ix1 2) = self1 A ix0 := by pointwise [consts]
  rw [z, self1_at A w hA]

end One

/-! ### The logits and the codes -/

theorem planes_at (X : V Ideal S4096x512x4) (v : Fin 4) (b : Fin 4096) (l : Fin 512) : planes X (ix3 v b l) = X (ix3 b l v) := by
  pointwise [planes]

theorem codes_at (T : IVec S4096x512 32) (t : Fin 512 → Fin 4) (b : Fin 4096) (hT : ∀ l, T (ix2 b l) = BitVec.ofNat 32 (t l).val) (l : Fin 512) :
    codes T (ix2 b l) = Soft.code (Maths.before t l) (t l) := by
  have z : concatenate S4096x512 1 [⟨S4096x1, broadcastInDim S4096x1 ![] bcast_S_S4096x1 (constantI S_ 32 0#32)⟩,
      ⟨S4096x511, extractStridedSlice S4096x511 ![0, 0] T slices_S4096x512_S4096x511_0_0⟩] concatenates_S4096x1_S4096x511_S4096x512_d1 (ix2 b l) = BitVec.ofNat 32 (Maths.before t l).val := by
    pointwise
    unfold Maths.before
    by_cases h0 : l.val = 0
    · rw [dif_pos (by omega), if_pos h0]; rfl
    · rw [dif_neg (by omega), if_neg h0]
      exact hT _
  have y : codes T (ix2 b l) = concatenate S4096x512 1 [⟨S4096x1, broadcastInDim S4096x1 ![] bcast_S_S4096x1 (constantI S_ 32 0#32)⟩,
      ⟨S4096x511, extractStridedSlice S4096x511 ![0, 0] T slices_S4096x512_S4096x511_0_0⟩] concatenates_S4096x1_S4096x511_S4096x512_d1 (ix2 b l) * 4#32 + T (ix2 b l) := rfl
  rw [y, z, hT]
  generalize Maths.before t l = p
  generalize t l = q
  unfold Soft.code
  clear y z hT
  revert p q; decide

/-! ### The tail -/

/-- The sum over the first two axes, the second of one entry. -/
theorem blocksSum {A N : ℕ} (x : FVec Ideal ⟨3, ![A, 1, N]⟩ .f32) (h' : (⟨3, ![A, 1, N]⟩ : Shape).ReducesTo [0, 1] (⟨1, ![N]⟩ : Shape))
    (hu : 0 < (⟨0, ![]⟩ : Shape).numel) (n : Fin N) :
    Host.reduceAdd x (constant (⟨0, ![]⟩ : Shape) .f32 0x00000000#32) h' hu (ix1 n) = ∑ t : Fin A, x (ix3 t (0 : Fin 1) n) := by
  rw [ValueIdx.hostReduceAdd_apply]
  have z : (constant (⟨0, ![]⟩ : Shape) .f32 0x00000000#32 : FVec Ideal _ .f32) (Shape.Idx.first hu) = 0 := Ideal.ofBits_zero_f32
  rw [z]
  unfold Ideal.hostReduceAdd
  rw [zero_add]
  have d : ∀ i : (⟨3, ![A, 1, N]⟩ : Shape).Idx, (h'.drop i 0).val = (i 2).val := fun i => rfl
  symm
  refine Finset.sum_bij (fun t _ => ix3 t (0 : Fin 1) n) (fun t _ => ?_) (fun a _ b _ e => congrFun e 0) (fun i hi => ?_) (fun _ _ => rfl)
  · refine Finset.mem_filter.2 ⟨Finset.mem_univ _, funext fun b => ?_⟩
    match b with
    | ⟨0, _⟩ => exact Fin.ext (d _)
  · have e := (Finset.mem_filter.1 hi).2
    refine ⟨i 0, Finset.mem_univ _, funext fun a => ?_⟩
    match a with
    | ⟨0, _⟩ => rfl
    | ⟨1, _⟩ => exact Fin.ext (by have := (i 1).isLt; show 0 = (i 1).val; have q : (i 1).val < 1 := this; omega)
    | ⟨2, _⟩ => exact Fin.ext (((congrArg (fun f => (f 0).val) e).symm).trans (d i))

theorem blockSum_at (P : V Ideal S8x1x128) (n : Fin 128) : blockSum P (ix1 n) = ∑ t : Fin 8, P (ix3 t 0 n) := by
  exact blocksSum P reducesTo_S8x1x128_S128_d0_1 h_S_ n

theorem final_at (L : V Ideal S128) (j : S_.Idx) : final L j
    = Ideal.div (L (ix1 0)) (L (ix1 1)) + Ideal.div ((L (ix1 2) : EReal) - L (ix1 3)) ((8388608 : ℝ) : EReal) := by
  have z0 : shapeCast S_ (extractStridedSlice S1 ![0] L slices_S128_S1_0) shapeCasts_S1_S_ j = L (ix1 0) := by pointwise
  have z1 : shapeCast S_ (extractStridedSlice S1 ![1] L slices_S128_S1_1) shapeCasts_S1_S_ j = L (ix1 1) := by pointwise
  have z2 : shapeCast S_ (extractStridedSlice S1 ![2] L slices_S128_S1_2) shapeCasts_S1_S_ j = L (ix1 2) := by pointwise
  have z3 : shapeCast S_ (extractStridedSlice S1 ![3] L slices_S128_S1_3) shapeCasts_S1_S_ j = L (ix1 3) := by pointwise
  have k : (constant S_ .f32 0x4B000000#32 : V Ideal S_) j = ((8388608 : ℝ) : EReal) := Maths.bits_8388608
  rw [final, plus_at, over_at, over_at, minus_at, z0, z1, z2, z3, k]

end Cert.KernelIdeal.Host

end
-- ==== Proof.KernelIdeal.Arrays.lean ====
/- The two calls' arrays, entry by entry: which part of each array a grid point stages, and which block of the result it leaves. -/
module

public import proofs.«01_k».proof.Proof.KernelIdeal.Blocks
public import proofs.«01_k».proof.Proof.KernelIdeal.Calls

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- Row `r` of block `t`. -/
def rowOf (t : Fin 8) (r : Fin 512) : Fin 4096 := ⟨t.val * 512 + r.val, by have := t.isLt; have := r.isLt; omega⟩

/-- Where the windows of the general call sit at a grid point. -/
theorem gAt0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem gAt1 (t : Fin cfg0.N) : win0_1.index t 0 = t.val ∧ win0_1.index t 1 = 0 :=
  (by decide +kernel : ∀ t : Fin grid0.N, win0_1.index t 0 = t.val ∧ win0_1.index t 1 = 0) t
theorem gAtOut (t : Fin cfg0.N) : win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0) t
theorem gInj : ∀ t t' : Fin cfg0.N, win0_4.index t = win0_4.index t' → t = t' :=
  (by decide +kernel : ∀ t t' : Fin grid0.N, win0_4.index t = win0_4.index t' → t = t')
theorem gFlush : ∀ t : Fin cfg0.N, (cfg0.win 4).flush t = true :=
  (by decide +kernel : ∀ t : Fin grid0.N, win0_4.flush t = true)

/-- The blocks staged at a point, entry by entry. -/
theorem gblk0_at (c : Dev nD) (t : Fin 8) (v : Fin 4) (r l : Fin 512) : (gblk V c 0 t : Vec F S4x512x512 .bf16) (ix3 v r l)
    = (V c main_v69 : Vec F S4x4096x512 .bf16) (ix3 v (rowOf t r) l) := by
  refine congrArg (V c main_v69) (funext fun a => Fin.ext ?_)
  match a with
  | ⟨0, _⟩ =>
    show win0_0.index t 0 * 4 + 1 * v.val = v.val
    rw [(gAt0 t).1]; omega
  | ⟨1, _⟩ =>
    show win0_0.index t 1 * 512 + 1 * r.val = t.val * 512 + r.val
    rw [(gAt0 t).2.1]; omega
  | ⟨2, _⟩ =>
    show win0_0.index t 2 * 512 + 1 * l.val = l.val
    rw [(gAt0 t).2.2]; omega
theorem gblk1_at (c : Dev nD) (t : Fin 8) (r l : Fin 512) : (gblk V c 1 t : Vec F S512x512 .i32) (ix2 r l)
    = (V c main_case0b0_v90 : Vec F S4096x512 .i32) (ix2 (rowOf t r) l) := by
  refine congrArg (V c main_case0b0_v90) (funext fun a => Fin.ext ?_)
  match a with
  | ⟨0, _⟩ =>
    show win0_1.index t 0 * 512 + 1 * r.val = t.val * 512 + r.val
    rw [(gAt1 t).1]; omega
  | ⟨1, _⟩ =>
    show win0_1.index t 1 * 512 + 1 * l.val = l.val
    rw [(gAt1 t).2]; omega

theorem gAt2 (t : Fin cfg0.N) : win0_2.index t 0 = 0 ∧ win0_2.index t 1 = 0 :=
  (by decide +kernel : ∀ t : Fin grid0.N, win0_2.index t 0 = 0 ∧ win0_2.index t 1 = 0) t
theorem gblk2_at (c : Dev nD) (t : Fin 8) (j : S16x4.Idx) : (gblk V c 2 t : Vec F S16x4 .f32) j = (V c main_v26 : Vec F S16x4 .f32) j := by
  refine congrArg (V c main_v26) (funext fun a => Fin.ext ?_)
  match a with
  | ⟨0, _⟩ =>
    show win0_2.index t 0 * 16 + 1 * (j 0).val = (j 0).val
    rw [(gAt2 t).1]; omega
  | ⟨1, _⟩ =>
    show win0_2.index t 1 * 4 + 1 * (j 1).val = (j 1).val
    rw [(gAt2 t).2]; omega

theorem gAt3 (t : Fin cfg0.N) : win0_3.index t 0 = 0 :=
  (by decide +kernel : ∀ t : Fin grid0.N, win0_3.index t 0 = 0) t
theorem gblk3_at (c : Dev nD) (t : Fin 8) (j : S16.Idx) : (gblk V c 3 t : Vec F S16 .f32) j = (V c main_v35 : Vec F S16 .f32) j := by
  refine congrArg (V c main_v35) (funext fun a => Fin.ext ?_)
  match a with
  | ⟨0, _⟩ =>
    show win0_3.index t 0 * 16 + 1 * (j 0).val = (j 0).val
    rw [(gAt3 t)]; omega

theorem gFlushed (c : Dev nD) (t : Fin cfg0.N) : (gdat V c).flushed 4 t = genOut c t (gblk V c 0 t) (gblk V c 1 t) (gblk V c 2 t) (gblk V c 3 t) := by
  show (cfg0.win 4).cut (grid0.coords t) ((gdat V c).after 4 t) = _
  rw [gAfter4]; rfl

/-- The call's array, entry by entry: block `t` is what the body left at point `t`. -/
theorem gArr_at (c : Dev nD) (t : Fin 8) (n : Fin 128) : (gArr V c : Vec F S8x1x128 .f32) (ix3 t (0 : Fin 1) n)
    = genOut c t (gblk V c 0 t) (gblk V c 1 t) (gblk V c 2 t) (gblk V c 3 t) (ix3 (0 : Fin 1) (0 : Fin 1) n) := by
  have h := (gdat V c).read_blk_arrAt_eq_flushed 4 (fun t t' _ _ hne => (cfg0.win 4).disjoint_blk fun h => hne (gInj t t' h)) cfg0.N t t.isLt (gFlush t)
  refine (congrArg (gArr V c) (funext fun a => Fin.ext ?_)).trans (congrFun (h.trans (gFlushed V c t)) (ix3 (0 : Fin 1) (0 : Fin 1) n))
  match a with
  | ⟨0, _⟩ =>
    show t.val = win0_4.index t 0 * 1 + 1 * 0
    rw [(gAtOut t).1]; omega
  | ⟨1, _⟩ =>
    show 0 = win0_4.index t 1 * 1 + 1 * 0
    rw [(gAtOut t).2.1]
  | ⟨2, _⟩ =>
    show n.val = win0_4.index t 2 * 128 + 1 * n.val
    rw [(gAtOut t).2.2]; omega

/-- Where the windows of the fast call sit at a grid point. -/
theorem fAt0 (t : Fin cfg1.N) : win1_0.index t 0 = 0 ∧ win1_0.index t 1 = t.val ∧ win1_0.index t 2 = 0 :=
  (by decide +kernel : ∀ t : Fin grid1.N, win1_0.index t 0 = 0 ∧ win1_0.index t 1 = t.val ∧ win1_0.index t 2 = 0) t
theorem fAt1 (t : Fin cfg1.N) : win1_1.index t 0 = t.val ∧ win1_1.index t 1 = 0 :=
  (by decide +kernel : ∀ t : Fin grid1.N, win1_1.index t 0 = t.val ∧ win1_1.index t 1 = 0) t
theorem fAtOut (t : Fin cfg1.N) : win1_3.index t 0 = t.val ∧ win1_3.index t 1 = 0 ∧ win1_3.index t 2 = 0 :=
  (by decide +kernel : ∀ t : Fin grid1.N, win1_3.index t 0 = t.val ∧ win1_3.index t 1 = 0 ∧ win1_3.index t 2 = 0) t
theorem fInj : ∀ t t' : Fin cfg1.N, win1_3.index t = win1_3.index t' → t = t' :=
  (by decide +kernel : ∀ t t' : Fin grid1.N, win1_3.index t = win1_3.index t' → t = t')
theorem fFlush : ∀ t : Fin cfg1.N, (cfg1.win 3).flush t = true :=
  (by decide +kernel : ∀ t : Fin grid1.N, win1_3.flush t = true)

/-- The blocks staged at a point, entry by entry. -/
theorem fblk0_at (c : Dev nD) (t : Fin 8) (v : Fin 4) (r l : Fin 512) : (fblk V c 0 t : Vec F S4x512x512 .bf16) (ix3 v r l)
    = (V c main_v69 : Vec F S4x4096x512 .bf16) (ix3 v (rowOf t r) l) := by
  refine congrArg (V c main_v69) (funext fun a => Fin.ext ?_)
  match a with
  | ⟨0, _⟩ =>
    show win1_0.index t 0 * 4 + 1 * v.val = v.val
    rw [(fAt0 t).1]; omega
  | ⟨1, _⟩ =>
    show win1_0.index t 1 * 512 + 1 * r.val = t.val * 512 + r.val
    rw [(fAt0 t).2.1]; omega
  | ⟨2, _⟩ =>
    show win1_0.index t 2 * 512 + 1 * l.val = l.val
    rw [(fAt0 t).2.2]; omega
theorem fblk1_at (c : Dev nD) (t : Fin 8) (r l : Fin 512) : (fblk V c 1 t : Vec F S512x512 .i32) (ix2 r l)
    = (V c main_arg1 : Vec F S4096x512 .i32) (ix2 (rowOf t r) l) := by
  refine congrArg (V c main_arg1) (funext fun a => Fin.ext ?_)
  match a with
  | ⟨0, _⟩ =>
    show win1_1.index t 0 * 512 + 1 * r.val = t.val * 512 + r.val
    rw [(fAt1 t).1]; omega
  | ⟨1, _⟩ =>
    show win1_1.index t 1 * 512 + 1 * l.val = l.val
    rw [(fAt1 t).2]; omega

theorem fAt2 (t : Fin cfg1.N) : win1_2.index t 0 = 0 :=
  (by decide +kernel : ∀ t : Fin grid1.N, win1_2.index t 0 = 0) t
theorem fblk2_at (c : Dev nD) (t : Fin 8) (j : S4.Idx) : (fblk V c 2 t : Vec F S4 .f32) j = (V c main_v64 : Vec F S4 .f32) j := by
  refine congrArg (V c main_v64) (funext fun a => Fin.ext ?_)
  match a with
  | ⟨0, _⟩ =>
    show win1_2.index t 0 * 4 + 1 * (j 0).val = (j 0).val
    rw [(fAt2 t)]; omega

theorem fFlushed (c : Dev nD) (t : Fin cfg1.N) : (fdat V c).flushed 3 t = fastOut c t (fblk V c 0 t) (fblk V c 1 t) (fblk V c 2 t) := by
  show (cfg1.win 3).cut (grid1.coords t) ((fdat V c).after 3 t) = _
  rw [fAfter3]; rfl

/-- The call's array, entry by entry: block `t` is what the body left at point `t`. -/
theorem fArr_at (c : Dev nD) (t : Fin 8) (n : Fin 128) : (fArr V c : Vec F S8x1x128 .f32) (ix3 t (0 : Fin 1) n)
    = fastOut c t (fblk V c 0 t) (fblk V c 1 t) (fblk V c 2 t) (ix3 (0 : Fin 1) (0 : Fin 1) n) := by
  have h := (fdat V c).read_blk_arrAt_eq_flushed 3 (fun t t' _ _ hne => (cfg1.win 3).disjoint_blk fun h => hne (fInj t t' h)) cfg1.N t t.isLt (fFlush t)
  refine (congrArg (fArr V c) (funext fun a => Fin.ext ?_)).trans (congrFun (h.trans (fFlushed V c t)) (ix3 (0 : Fin 1) (0 : Fin 1) n))
  match a with
  | ⟨0, _⟩ =>
    show t.val = win1_3.index t 0 * 1 + 1 * 0
    rw [(fAtOut t).1]; omega
  | ⟨1, _⟩ =>
    show 0 = win1_3.index t 1 * 1 + 1 * 0
    rw [(fAtOut t).2.1]
  | ⟨2, _⟩ =>
    show n.val = win1_3.index t 2 * 128 + 1 * n.val
    rw [(fAtOut t).2.2]; omega

end Cert.KernelIdeal.Run

end
-- ==== Proof.Flat.lean ====
/- The loss's terms at a table of one value, and its sums by blocks of rows. -/
module

public import proofs.«01_k».proof.Proof.Maths

@[expose] public section

noncomputable section

namespace Cert.Maths

open Idealize.ShloMosaic

theorem three_mul (a : EReal) : ((3 : ℝ) : EReal) * a = a + a + a := by
  have h : ((3 : ℝ) : EReal) * a = 3 • a := by rw [EReal.nsmul_eq_mul]; rfl
  rw [h, succ_nsmul, succ_nsmul, one_nsmul]

/-- A real multiple by a count is the repeated sum. -/
theorem mul_count (a : EReal) : a * ((262144 : ℝ) : EReal) = 262144 • a := by
  have k : ((262144 : ℝ) : EReal) = ((262144 : ℕ) : EReal) := by rw [← EReal.coe_natCast]; norm_num
  rw [EReal.nsmul_eq_mul, mul_comm, k]

/-- One entry of four apart: the sum is three of the one and one of the other. -/
theorem four_of_three (g : ℝ → EReal) (t : Fin 4) (a b : ℝ) :
    g (if 0 = t then b else a) + g (if 1 = t then b else a) + g (if 2 = t then b else a) + g (if 3 = t then b else a) = g a + g a + g a + g b := by
  fin_cases t <;> simp <;> generalize g a = p <;> generalize g b = r <;> abel

section Flat
variable (M : Fin 4 → Fin 4 → Fin 4 → ℝ) (u : ℝ) (h : ∀ a b c, M a b c = u)
include h

theorem weight_flat (f t v : Fin 4) : weight M f t v = if v = t then 1 - 4 * (s * u) else s * u := by
  unfold weight
  rw [h, h, h, h, h]
  split <;> ring

theorem self_flat (f t : Fin 4) : self M f t = ((3 : ℝ) : EReal) * q (s * u) + q (1 - 4 * (s * u)) := by
  unfold self
  rw [weight_flat M u h, weight_flat M u h, weight_flat M u h, weight_flat M u h, three_mul]
  exact four_of_three q t _ _

theorem cross_flat (f t : Fin 4) (x : Fin 4 → ℝ) : cross M f t x = s * u + (1 - 5 * (s * u)) * prob x t := by
  have p := prob_sum x
  unfold cross
  rw [weight_flat M u h, weight_flat M u h, weight_flat M u h, weight_flat M u h]
  generalize s * u = a
  fin_cases t <;> simp <;> linear_combination a * p

/-- The self terms of a block. -/
theorem self_block (f t : Fin 512 → Fin 512 → Fin 4) :
    (((3 : ℝ) : EReal) * q (s * u) + q (1 - 4 * (s * u))) * ((262144 : ℝ) : EReal) = ∑ r, ∑ l, self M (f r l) (t r l) := by
  rw [mul_count]
  simp only [self_flat M u h, Finset.sum_const, Finset.card_univ, Fintype.card_fin, smul_smul]
  norm_num

/-- The cross terms of a block. -/
theorem cross_block (f t : Fin 512 → Fin 512 → Fin 4) (x : Fin 512 → Fin 512 → Fin 4 → ℝ) :
    ((s * u : ℝ) : EReal) * ((262144 : ℝ) : EReal) + ((1 - 5 * (s * u) : ℝ) : EReal) * ∑ r, ∑ l, (prob (x r l) (t r l) : EReal) = ∑ r, ∑ l, (cross M (f r l) (t r l) (x r l) : EReal) := by
  simp only [coe_sum, ← EReal.coe_mul, ← EReal.coe_add, cross_flat M u h, Finset.sum_add_distrib, Finset.sum_const, Finset.card_univ, Fintype.card_fin, ← Finset.mul_sum, nsmul_eq_mul]
  congr 1
  push_cast
  ring

end Flat

end Cert.Maths

end
-- ==== Proof.KernelIdeal.Result.lean ====
/- The kernel program's result as the loss over the real numbers, by either arm of its branch. -/
module

public import proofs.«01_k».proof.Proof.KernelIdeal.Host
public import proofs.«01_k».proof.Proof.KernelIdeal.Arrays
public import proofs.«01_k».proof.Proof.Flat

@[expose] public section

set_option maxRecDepth 16384

noncomputable section

namespace Cert.KernelIdeal.Host

open Idealize.ShloMosaic Idealize.ShloMosaic.TcCoe Idealize.SL.Sem
open Cert.KernelIdeal Cert.KernelIdeal.Gen Cert.KernelIdeal.Run

/-- A sum over the rows, block by block. -/
theorem blocks (g : Fin 4096 → EReal) : ∑ t : Fin 8, ∑ r : Fin 512, g (rowOf t r) = ∑ b, g b :=
  (Folds.sum_flat (A := 8) (B := 512) (by norm_num) g (fun t r => g (rowOf t r)) fun t r b e => congrArg g (Fin.ext e)).symm

/-- The tail's result from the blocks' first four lanes. -/
theorem tail (P : V Ideal S8x1x128) (x : Fin 4096 → Fin 512 → Fin 4 → ℝ) (t : Fin 4096 → Fin 512 → Fin 4) (m : Fin 4 → Fin 4 → Fin 4 → ℝ)
    (h0 : ∀ k : Fin 8, P (ix3 k 0 0) = ∑ r, ∑ l, (Maths.nll (x (rowOf k r) l) (t (rowOf k r) l) : EReal))
    (h1 : ∀ k : Fin 8, P (ix3 k 0 1) = ∑ r, ∑ l, (Maths.live (t (rowOf k r) l) : EReal))
    (h2 : ∀ k : Fin 8, P (ix3 k 0 2) = ∑ r, ∑ l, Maths.self m (Maths.before (t (rowOf k r)) l) (t (rowOf k r) l))
    (h3 : ∀ k : Fin 8, P (ix3 k 0 3) = ∑ r, ∑ l, (Maths.cross m (Maths.before (t (rowOf k r)) l) (t (rowOf k r) l) (x (rowOf k r) l) : EReal))
    (j : S_.Idx) : final (blockSum P) j = Maths.loss x t m := by
  rw [final_at, blockSum_at, blockSum_at, blockSum_at, blockSum_at]
  rw [Finset.sum_congr rfl fun k _ => h0 k, Finset.sum_congr rfl fun k _ => h1 k, Finset.sum_congr rfl fun k _ => h2 k, Finset.sum_congr rfl fun k _ => h3 k]
  rw [blocks fun b => ∑ l, (Maths.nll (x b l) (t b l) : EReal), blocks fun b => ∑ l, (Maths.live (t b l) : EReal),
    blocks fun b => ∑ l, Maths.self m (Maths.before (t b) l) (t b l), blocks fun b => ∑ l, (Maths.cross m (Maths.before (t b) l) (t b l) (x b l) : EReal)]
  rfl

theorem widen_at (b : IVec S_ 1) (j : S_.Idx) : extui 32 b natLt_1_32 j = (b j).setWidth 32 := rfl

section Whole
variable (M : (ℓ : Loc nD τ sig) → Buf (Elt Ideal) ℓ) (c : Dev nD) (x : Fin 4096 → Fin 512 → Fin 4 → ℝ) (t : Fin 4096 → Fin 512 → Fin 4) (m : Fin 4 → Fin 4 → Fin 4 → ℝ)
  (hX : ∀ b l v, (M (c, Proc.devRef .tc main_arg0) : V Ideal S4096x512x4) (ix3 b l v) = ((x b l v : ℝ) : EReal))
  (hT : ∀ b l, (M (c, Proc.devRef .tc main_arg1) : IVec S4096x512 32) (ix2 b l) = BitVec.ofNat 32 (t b l).val)
  (hM : ∀ a b d : Fin 4, (M (c, Proc.devRef .tc main_arg4) : V Ideal S5x5x5) (ix3 (n0 := 5) (n1 := 5) (n2 := 5) a.castSucc b.castSucc d.castSucc) = ((m a b d : ℝ) : EReal))
include hX hT hM

/-- The general arm's array, lane by lane. -/
theorem general_at (k : Fin 8) (n : Fin 128) : (gArr (fun c b => Wg0 M c b) c : V Ideal S8x1x128) (ix3 k (0 : Fin 1) n)
    = if n.val = 0 then ∑ r, ∑ l, ((Maths.nll (x (rowOf k r) l) (t (rowOf k r) l) : ℝ) : EReal) else if n.val = 1 then ∑ r, ∑ l, ((Maths.live (t (rowOf k r) l) : ℝ) : EReal)
      else if n.val = 2 then ∑ r, ∑ l, Maths.self m (Maths.before (t (rowOf k r)) l) (t (rowOf k r) l)
      else if n.val = 3 then ∑ r, ∑ l, ((Maths.cross m (Maths.before (t (rowOf k r)) l) (t (rowOf k r) l) (x (rowOf k r) l) : ℝ) : EReal) else 0 := by
  refine (gArr_at _ c k n).trans ?_
  refine (congrFun (genOut_eq c k _ _ _ _) _).trans ?_
  refine genBlk_at _ _ (fun r l => x (rowOf k r) l) (fun r l => Maths.before (t (rowOf k r)) l) (fun r l => t (rowOf k r) l) ?_ ?_ _ _ m ?_ ?_ n 0 0
  · intro v r l
    refine (gblk0_at _ c k v r l).trans ?_
    refine (congrFun (Wg0_v69 M c) _).trans ?_
    exact (planes_at _ v _ l).trans (hX _ _ _)
  · intro r l
    refine (gblk1_at _ c k r l).trans ?_
    refine (congrFun (Wg0_v90 M c) _).trans ?_
    exact codes_at _ (t (rowOf k r)) (rowOf k r) (hT _) l
  · intro a b v
    refine (gblk2_at _ c k _).trans ?_
    exact (congrFun (Wg0_v26 M c) _).trans (table_at _ m hM a b v)
  · intro a b
    refine (gblk3_at _ c k _).trans ?_
    exact (congrFun (Wg0_v35 M c) _).trans (self_at _ m hM a b)

/-- The fast arm's array, lane by lane, at a table of one value. -/
theorem fast_at (hF : ∀ a b d, m a b d = m 0 0 0) (k : Fin 8) (n : Fin 128) : (fArr (fun c b => Wrd M c b) c : V Ideal S8x1x128) (ix3 k (0 : Fin 1) n)
    = if n.val = 0 then ∑ r, ∑ l, ((Maths.nll (x (rowOf k r) l) (t (rowOf k r) l) : ℝ) : EReal) else if n.val = 1 then ∑ r, ∑ l, ((Maths.live (t (rowOf k r) l) : ℝ) : EReal)
      else if n.val = 2 then ∑ r, ∑ l, Maths.self m (Maths.before (t (rowOf k r)) l) (t (rowOf k r) l)
      else if n.val = 3 then ∑ r, ∑ l, ((Maths.cross m (Maths.before (t (rowOf k r)) l) (t (rowOf k r) l) (x (rowOf k r) l) : ℝ) : EReal) else 0 := by
  refine (fArr_at _ c k n).trans ?_
  refine (congrFun (fastOut_eq c k _ _ _) _).trans ?_
  refine (fastBlk_at _ _ (fun r l => x (rowOf k r) l) (fun _ _ => 0) (fun r l => t (rowOf k r) l) ?_ ?_ _ n 0 0).trans ?_
  · intro v r l
    refine (fblk0_at _ c k v r l).trans ?_
    refine (congrFun (Wrd_v69 M c) _).trans ?_
    exact (planes_at _ v _ l).trans (hX _ _ _)
  · intro r l
    refine (fblk1_at _ c k r l).trans ?_
    refine (congrFun (Wrd_arg M c main_arg1 (by decide)) _).trans ((hT _ _).trans ?_)
    exact (by decide : ∀ q : Fin 4, BitVec.ofNat 32 q.val = Soft.code 0 q) _
  · have e : ∀ i, (fblk (fun c b => Wrd M c b) c 2 k : Vec Ideal S4 .f32) i = (Wrd M c main_v64 : Vec Ideal S4 .f32) i := fun i => fblk2_at _ c k i
    have u := unit_at _ m hM
    rw [e, e, e, Wrd_v64, consts_0 _ _ u, consts_1 _ _ u, consts_2 _ _ u,
      Maths.self_block m (m 0 0 0) hF (fun r l => Maths.before (t (rowOf k r)) l) (fun r l => t (rowOf k r) l),
      Maths.cross_block m (m 0 0 0) hF (fun r l => Maths.before (t (rowOf k r)) l) (fun r l => t (rowOf k r) l)]

/-- The branch takes the fast arm where the table has one value, else the general one. -/
theorem branch_at : HostLoop.branch (word M c) 1 = if ∀ a b d, m a b d = m 0 0 0 then 1 else 0 := by
  rw [word_eq, widen_at, flatBit_at _ m hM]
  split
  · exact (HostLoop.branch_of_lt _ 1 (by decide) (by decide)).trans (by decide)
  · exact (HostLoop.branch_of_lt _ 1 (by decide) (by decide)).trans (by decide)

/-- THE RESULT. -/
theorem result_at (j : S_.Idx) : (Wend M c main_v84 : V Ideal S_) j = Maths.loss x t m := by
  have e : Wcase M c = Warm M (HostLoop.branch (word M c) 1) c := rfl
  refine (congrFun (Wend_v84 M c) j).trans ?_
  rw [e, branch_at M c x t m hX hT hM]
  by_cases hF : ∀ a b d, m a b d = m 0 0 0
  · rw [if_pos hF]
    have f := fast_at M c x t m hX hT hM hF
    have p : Warm M 1 c main_v71 = fArr (fun c b => Wrd M c b) c := Wf2_v71 M c
    rw [p]
    exact tail _ x t m (fun k => f k 0) (fun k => f k 1) (fun k => f k 2) (fun k => f k 3) j
  · rw [if_neg hF]
    have g := general_at M c x t m hX hT hM
    have p : Warm M 0 c main_v71 = gArr (fun c b => Wg0 M c b) c := Wg2_v71 M c
    rw [p]
    exact tail _ x t m (fun k => g k 0) (fun k => g k 1) (fun k => g k 2) (fun k => g k 3) j

end Whole

end Cert.KernelIdeal.Host

end
-- ==== Proof.ReferenceIdeal.Stages.lean ====
/- The reference's result as a chain of named stages, each a function of the logits `X`, the targets `T` and the table `M`. -/
module

public import proofs.«01_k».proof.Proof.Gen.ReferenceIdeal.Run
public import Idealize.ShloMosaic.PureOps.Ideal

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

/-- A vector of `EReal`s. -/
abbrev V (s : Shape) : Type := FVec Ideal s .f32

/-- The logits, one row per position. -/
def rows (X : V S4096x512x4) : V S2097152x4 := shapeCast S2097152x4 X shapeCasts_S4096x512x4_S2097152x4

/-- The targets, one per position. -/
def flat (T : IVec S4096x512 32) : IVec S2097152 32 := shapeCast S2097152 T shapeCasts_S4096x512_S2097152

/-- A vector of one entry per row, repeated along the row. -/
def spread (y : V S2097152) : V S2097152x4 :=
  broadcastInDim S2097152x4 ![0, 1] bcast_S2097152x1_S2097152x4_0_1 (broadcastInDim S2097152x1 ![0] bcast_S2097152_S2097152x1_0 y)

/-- The row's largest logit. -/
def top (R : V S2097152x4) : V S2097152 :=
  maximumf (broadcastInDim S2097152 ![] bcast_S_S2097152 (constant S_ .f32 0xFF800000#32))
    (Host.reduce FloatOps.maximumf R (constant S_ .f32 0xFF800000#32) reducesTo_S2097152x4_S2097152_d1 h_S_)

/-- The logits less the row's largest. -/
def shifted (R : V S2097152x4) : V S2097152x4 := subf R (spread (top R))

/-- The sum of a row. -/
def rowSum (R : V S2097152x4) : V S2097152 := Host.reduceAdd R (constant S_ .f32 0x00000000#32) reducesTo_S2097152x4_S2097152_d1 h_S_

/-- The logarithm of the softmax. -/
def logp (R : V S2097152x4) : V S2097152x4 :=
  subf (shifted R) (broadcastInDim S2097152x4 ![0, 1] bcast_S2097152x1_S2097152x4_0_1
    (Host.log (broadcastInDim S2097152x1 ![0] bcast_S2097152_S2097152x1_0 (rowSum (Host.exp (shifted R))))))

/-- A word of the last axis, a negative one counted from the end. -/
def wrapCol (t : IVec S2097152x1 32) : IVec S2097152x1x1 32 :=
  shapeCast S2097152x1x1 (select (cmpi .slt t (broadcastInDim S2097152x1 ![] bcast_S_S2097152x1 (constantI S_ 32 0#32)))
    (addi t (broadcastInDim S2097152x1 ![] bcast_S_S2097152x1 (constantI S_ 32 4#32))) t) shapeCasts_S2097152x1_S2097152x1x1

/-- Whether the word is in range. -/
def inRange (i : IVec S2097152x1x1 32) : IVec S2097152x1 1 :=
  Host.reduce IntOp.andi (andi (cmpi .sge i (broadcastInDim S2097152x1x1 ![] bcast_S_S2097152x1x1 (constantI S_ 32 0#32)))
    (cmpi .sle i (broadcastInDim S2097152x1x1 ![0, 1, 2] bcast_S1x1x1_S2097152x1x1_0_1_2 (broadcastInDim S1x1x1 ![2] bcast_S1_S1x1x1_2 (constantI S1 32 3#32)))))
    (constantI S_ 1 1#1) reducesTo_S2097152x1x1_S2097152x1_d2 h_S_

/-- The column's entry of a row. -/
def pick (R : V S2097152x4) (i : IVec S2097152x1x1 32) : V S2097152 :=
  shapeCast S2097152 (select (inRange i) (Host.gather gather_S2097152x4_S2097152x1x1_S2097152x1_n_1_0_0_1_2_11 R i)
    (broadcastInDim S2097152x1 ![] bcast_S_S2097152x1 (constant S_ .f32 0x7FC00000#32) : V S2097152x1)) shapeCasts_S2097152x1_S2097152

/-- One where the target is not the ignored class. -/
def live (t : IVec S2097152 32) : V S2097152 :=
  uitofp .f32 (cmpi .ne t (broadcastInDim S2097152 ![] bcast_S_S2097152 (constantI S_ 32 0#32)))

/-- The masked negative log likelihoods. -/
def nll (R : V S2097152x4) (t : IVec S2097152 32) : V S2097152 :=
  mulf (Host.negf (pick (logp R) (wrapCol (broadcastInDim S2097152x1 ![0] bcast_S2097152_S2097152x1_0 t)))) (live t)

/-- The sum of a vector. -/
def vecSum (y : V S2097152) : V S_ := Host.reduceAdd y (constant S_ .f32 0x00000000#32) reducesTo_S2097152_S_d0 h_S_

/-- The cross entropy. -/
def ce (R : V S2097152x4) (t : IVec S2097152 32) : V S_ := Host.divf (vecSum (nll R t)) (vecSum (live t))

/-- The class before each position, zero at a row's start. -/
def before (T : IVec S4096x512 32) : IVec S2097152 32 :=
  shapeCast S2097152 (Value.fn_main_v17 (F := Ideal) (broadcastInDim S4096x1 ![] bcast_S_S4096x1 (constantI S_ 32 0#32))
    (extractStridedSlice S4096x511 ![0, 0] T slices_S4096x512_S4096x511_0_0)) shapeCasts_S4096x512_S2097152

/-- The softmax. -/
def prob (R : V S2097152x4) : V S2097152x4 := Host.divf (Host.exp (shifted R)) (spread (rowSum (Host.exp (shifted R))))

/-- The smoothing of each position. -/
def smooth : V S2097152 :=
  shapeCast S2097152 (broadcastInDim S4096x512 ![0, 1] bcast_S4096x1_S4096x512_0_1 (broadcastInDim S4096x1 ![0] bcast_S4096_S4096x1_0
    (subf (broadcastInDim S4096 ![] bcast_S_S4096 (constant S_ .f32 0x3F800000#32))
      (Host.powf (broadcastInDim S4096 ![] bcast_S_S4096 (constant S_ .f32 0x3F666666#32))
        (Host.divf (broadcastInDim S4096 ![] bcast_S_S4096 (constant S_ .f32 0x3F800000#32))
          (broadcastInDim S4096 ![] bcast_S_S4096 (constant S_ .f32 0x44000000#32) : V S4096)))))) shapeCasts_S4096x512_S2097152

/-- A class word, a negative one counted from the end. -/
def wrap (n : BitVec 32) (t : IVec S2097152 32) : IVec S2097152x1 32 :=
  broadcastInDim S2097152x1 ![0] bcast_S2097152_S2097152x1_0
    (select (cmpi .slt t (broadcastInDim S2097152 ![] bcast_S_S2097152 (constantI S_ 32 0#32)))
      (addi t (broadcastInDim S2097152 ![] bcast_S_S2097152 (constantI S_ 32 n))) t)

/-- The smoothed rows of the table. -/
def tableRows (M : V S5x5x5) (f t : IVec S2097152 32) : V S2097152x4 :=
  mulf (spread smooth)
    (Host.gather gather_S4x4x4_S2097152x2_S2097152x4_1_01_n_n_01_1_114 (extractStridedSlice S4x4x4 ![0, 0, 0] M slices_S5x5x5_S4x4x4_0_0_0)
      (Value.fn_main_v53 (F := Ideal) (wrap 4#32 f) (wrap 4#32 t)))

/-- The smoothed rows with the target's entry set to one less the row's sum. -/
def setRows (Y : V S2097152x4) (t : IVec S2097152 32) : V S2097152x4 :=
  Host.scatter scatter_S2097152x4_S2097152x2_S2097152_n_01_01_1 (fun _ b => b) Y
    (Value.fn_main_v73 (F := Ideal) (wrap 2097152#32 (iotaInDim S2097152 32 0)) (wrap 4#32 t))
    (subf (broadcastInDim S2097152 ![] bcast_S_S2097152 (constant S_ .f32 0x3F800000#32)) (rowSum Y))

/-- A weight times its logarithm, zero at a zero weight. -/
def wlogw (W : V S2097152x4) : V S2097152x4 :=
  select (ori (cmpf .une W (broadcastInDim S2097152x4 ![] bcast_S_S2097152x4 (constant S_ .f32 0x00000000#32))) (cmpf .une W W))
    (mulf W (Host.log W)) (broadcastInDim S2097152x4 ![] bcast_S_S2097152x4 (constant S_ .f32 0x00000000#32))

/-- The divergence. -/
def kl (W P : V S2097152x4) : V S_ :=
  Host.divf (Host.reduceAdd (subf (wlogw W) (mulf W P)) (constant S_ .f32 0x00000000#32) reducesTo_S2097152x4_S_d0_1 h_S_)
    (constant S_ .f32 0x4B000000#32)

/-- The loss. -/
def loss (X : V S4096x512x4) (T : IVec S4096x512 32) (M : V S5x5x5) : V S_ :=
  addf (ce (rows X) (flat T)) (kl (setRows (tableRows M (before T) (flat T)) (flat T)) (prob (rows X)))

theorem res_eq (m : (ℓ : Loc nD τ sig) → Buf (Elt Ideal) ℓ) (c : Dev nD) :
    Value.res_main_v87 m c = loss (m ((c.tc : Thread nD τ).loc main_arg0)) (m ((c.tc : Thread nD τ).loc main_arg1)) (m ((c.tc : Thread nD τ).loc main_arg4)) := by
  unfold Value.res_main_v87
  rfl

end Cert.ReferenceIdeal.Stages

end
-- ==== Proof.ReferenceIdeal.Rows.lean ====
/- The stages of the reference read at one row, where the logits are real and the targets are classes. -/
module

public import proofs.«01_k».proof.Proof.ReferenceIdeal.Stages
public import proofs.«01_k».proof.Proof.Maths
public import proofs.«01_k».proof.Proof.Moves
public import proofs.«01_k».proof.Proof.Folds
public import Idealize.ShloMosaic.Lib.Pointwise
public import Idealize.ShloMosaic.Lib.ReduceAll

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

theorem reduces_row : S2097152x4.Reduces [1] S2097152 := by decide

theorem subf_at {S : Shape} (a b : V S) (i : S.Idx) : subf a b i = (a i : EReal) - (b i : EReal) := rfl
theorem mulf_at {S : Shape} (a b : V S) (i : S.Idx) : mulf a b i = (a i : EReal) * (b i : EReal) := rfl
theorem divf_at {S : Shape} (a b : V S) (i : S.Idx) : Host.divf a b i = Ideal.div (a i) (b i) := rfl

theorem spread_at (y : V S2097152) (n : Fin 2097152) (v : Fin 4) : spread y (ix2 n v) = y (ix1 n) := by
  pointwise [spread]

theorem spreadLog_at (y : V S2097152) (n : Fin 2097152) (v : Fin 4) :
    (broadcastInDim S2097152x4 ![0, 1] bcast_S2097152x1_S2097152x4_0_1 (Host.log (broadcastInDim S2097152x1 ![0] bcast_S2097152_S2097152x1_0 y : V S2097152x1)) : V S2097152x4) (ix2 n v)
      = Ideal.log (y (ix1 n)) := by
  pointwise

theorem rowSum_at (Y : V S2097152x4) (n : Fin 2097152) : rowSum Y (ix1 n) = Y (ix2 n 0) + Y (ix2 n 1) + Y (ix2 n 2) + Y (ix2 n 3) :=
  Folds.rowSum Y reducesTo_S2097152x4_S2097152_d1 reduces_row h_S_ n

section Row
variable (R : V S2097152x4) (y : Fin 2097152 → Fin 4 → ℝ) (hR : ∀ n v, R (ix2 n v) = ((y n v : ℝ) : EReal))
include hR

theorem top_at (n : Fin 2097152) : top R (ix1 n) = (Maths.top (y n) : EReal) :=
  Folds.rowTop R y hR _ (fun _ => Maths.bits_bot) reducesTo_S2097152x4_S2097152_d1 reduces_row h_S_ n

theorem shifted_at (n : Fin 2097152) (v : Fin 4) : shifted R (ix2 n v) = ((y n v - Maths.top (y n) : ℝ) : EReal) := by
  have z : shifted R (ix2 n v) = (R (ix2 n v) : EReal) - (spread (top R) (ix2 n v) : EReal) := rfl
  rw [z, spread_at, top_at R y hR, hR, ← EReal.coe_sub]

theorem exps_at (n : Fin 2097152) (v : Fin 4) : Host.exp (shifted R) (ix2 n v) = (Maths.ex (y n) v : EReal) := by
  have z : Host.exp (shifted R) (ix2 n v) = Ideal.exp (shifted R (ix2 n v)) := rfl
  rw [z, shifted_at R y hR]
  rfl

theorem expSum_at (n : Fin 2097152) : rowSum (Host.exp (shifted R)) (ix1 n) = (Maths.Z (y n) : EReal) := by
  rw [rowSum_at, exps_at R y hR, exps_at R y hR, exps_at R y hR, exps_at R y hR, Maths.Z, EReal.coe_add, EReal.coe_add, EReal.coe_add]

theorem logp_at (n : Fin 2097152) (v : Fin 4) : logp R (ix2 n v) = ((y n v - Maths.top (y n) - Real.log (Maths.Z (y n)) : ℝ) : EReal) := by
  rw [logp, subf_at, shifted_at R y hR, spreadLog_at, expSum_at R y hR, Ideal.log_coe, if_neg (not_le.2 (Maths.Z_pos _)), ← EReal.coe_sub]

theorem prob_at (n : Fin 2097152) (v : Fin 4) : prob R (ix2 n v) = (Maths.prob (y n) v : EReal) := by
  rw [prob, divf_at, exps_at R y hR, spread_at, expSum_at R y hR, Ideal.div_coe (Maths.Z_ne _), ← EReal.coe_mul]
  rfl

end Row

/-! ### Words -/

/-- A class word is not negative. -/
theorem word_wrap (t : Fin 4) (a : BitVec 32) : Scalar.select (IntOp.cmpi .slt (BitVec.ofNat 32 t.val) 0#32) a (BitVec.ofNat 32 t.val) = BitVec.ofNat 32 t.val :=
  Routing.wrap_of_lt _ _ (by rw [BitVec.toNat_ofNat]; have := t.isLt; omega)

theorem col_at (t : IVec S2097152 32) (n : Fin 2097152) : broadcastInDim S2097152x1 ![0] bcast_S2097152_S2097152x1_0 t (ix2 n 0) = t (ix1 n) := by
  pointwise

theorem squash_at {α : Type} (Y : S2097152x1.Idx → α) (n : Fin 2097152) : shapeCast S2097152 Y shapeCasts_S2097152x1_S2097152 (ix1 n) = Y (ix2 n 0) := by
  pointwise

theorem cube_at {α : Type} (Y : S2097152x1.Idx → α) (n : Fin 2097152) : shapeCast S2097152x1x1 Y shapeCasts_S2097152x1_S2097152x1x1 (ix3 n 0 0) = Y (ix2 n 0) := by
  pointwise

theorem wrapCol_at (u : IVec S2097152x1 32) (t : Fin 4) (n : Fin 2097152) (h : u (ix2 n 0) = BitVec.ofNat 32 t.val) : wrapCol u (ix3 n 0 0) = BitVec.ofNat 32 t.val := by
  refine (cube_at _ n).trans ?_
  have z : ∀ a : BitVec 32, Scalar.select (IntOp.cmpi .slt (u (ix2 n 0)) 0#32) a (u (ix2 n 0)) = BitVec.ofNat 32 t.val := fun a => by rw [h]; exact word_wrap t a
  exact z _

theorem wrap_at (u : IVec S2097152 32) (a : BitVec 32) (t : ℕ) (ht : t < 2 ^ 31) (n : Fin 2097152) (h : u (ix1 n) = BitVec.ofNat 32 t) : wrap a u (ix2 n 0) = BitVec.ofNat 32 t := by
  refine (col_at _ n).trans ?_
  have z : ∀ a : BitVec 32, Scalar.select (IntOp.cmpi .slt (u (ix1 n)) 0#32) a (u (ix1 n)) = BitVec.ofNat 32 t := fun a => by
    rw [h]; exact Routing.wrap_of_lt _ _ (by rw [BitVec.toNat_ofNat]; omega)
  exact z _

theorem word_range (t : Fin 4) : IntOp.andi (IntOp.cmpi .sge (BitVec.ofNat 32 t.val) 0#32) (IntOp.cmpi .sle (BitVec.ofNat 32 t.val) 3#32) = 1#1 := by
  revert t; decide

theorem three_at (i : S2097152x1x1.Idx) : broadcastInDim S2097152x1x1 ![0, 1, 2] bcast_S1x1x1_S2097152x1x1_0_1_2 (broadcastInDim S1x1x1 ![2] bcast_S1_S1x1x1_2 (constantI S1 32 3#32)) i = 3#32 := rfl

theorem inRange_at (i : IVec S2097152x1x1 32) (t : Fin 2097152 → Fin 4) (h : ∀ n, i (ix3 n 0 0) = BitVec.ofNat 32 (t n).val) (n : Fin 2097152) : inRange i (ix2 n 0) = 1#1 := by
  refine Host.reduce_andi_one _ _ _ _ _ rfl fun j => ?_
  have e : j = ix3 (j 0) 0 0 := by
    funext a
    match a with
    | ⟨0, _⟩ => rfl
    | ⟨1, _⟩ => exact Subsingleton.elim (α := Fin 1) _ _
    | ⟨2, _⟩ => exact Subsingleton.elim (α := Fin 1) _ _
  have z : IntOp.andi (IntOp.cmpi .sge (i j) 0#32) (IntOp.cmpi .sle (i j) 3#32) = 1#1 := by
    have h' : i j = BitVec.ofNat 32 (t (j 0)).val := (congrArg i e).trans (h (j 0))
    rw [h']; exact word_range _
  exact z

theorem pick_at (Q : V S2097152x4) (i : IVec S2097152x1x1 32) (t : Fin 2097152 → Fin 4) (h : ∀ n, i (ix3 n 0 0) = BitVec.ofNat 32 (t n).val) (n : Fin 2097152) :
    pick Q i (ix1 n) = Q (ix2 n (t n)) := by
  refine (squash_at _ n).trans ?_
  have g : Host.gather gather_S2097152x4_S2097152x1x1_S2097152x1_n_1_0_0_1_2_11 Q i (ix2 n 0) = Q (ix2 n (t n)) :=
    Moves.gather_along gather_S2097152x4_S2097152x1x1_S2097152x1_n_1_0_0_1_2_11_wf Q i n (t n) (by have := (t n).isLt; omega) (h n)
  have z : ∀ a : Ideal .f32, Scalar.select (inRange i (ix2 n 0)) (Host.gather gather_S2097152x4_S2097152x1x1_S2097152x1_n_1_0_0_1_2_11 Q i (ix2 n 0)) a = Q (ix2 n (t n)) := fun a => by
    rw [inRange_at i t h n, g]; rfl
  exact z _

end Cert.ReferenceIdeal.Stages

end
-- ==== Proof.ReferenceIdeal.Value.lean ====
/- The reference's result as the loss over the real numbers. -/
module

public import proofs.«01_k».proof.Proof.ReferenceIdeal.Rows

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

theorem word_live (t : Fin 4) : (FloatOps.uitofp (F := Ideal) .f32 (IntOp.cmpi .ne (BitVec.ofNat 32 t.val) 0#32) : EReal) = (Maths.live t : EReal) := by
  have z : ∀ w : BitVec 1, (FloatOps.uitofp (F := Ideal) .f32 w : EReal) = ((w.toNat : ℝ) : EReal) := fun _ => rfl
  rw [z]
  fin_cases t <;> simp [Maths.live, IntOp.cmpi]

theorem live_at (u : IVec S2097152 32) (t : Fin 2097152 → Fin 4) (hu : ∀ n, u (ix1 n) = BitVec.ofNat 32 (t n).val) (n : Fin 2097152) :
    live u (ix1 n) = (Maths.live (t n) : EReal) := by
  have z : (FloatOps.uitofp (F := Ideal) .f32 (IntOp.cmpi .ne (u (ix1 n)) 0#32) : EReal) = (Maths.live (t n) : EReal) := by rw [hu]; exact word_live _
  exact z

theorem negf_at {S : Shape} (a : V S) (i : S.Idx) : Host.negf a i = -(a i : EReal) := rfl

theorem nll_at (R : V S2097152x4) (y : Fin 2097152 → Fin 4 → ℝ) (hR : ∀ n v, R (ix2 n v) = ((y n v : ℝ) : EReal))
    (u : IVec S2097152 32) (t : Fin 2097152 → Fin 4) (hu : ∀ n, u (ix1 n) = BitVec.ofNat 32 (t n).val) (n : Fin 2097152) :
    nll R u (ix1 n) = (Maths.nll (y n) (t n) : EReal) := by
  rw [nll, mulf_at, negf_at, pick_at (logp R) _ t (fun n => wrapCol_at _ (t n) n ((col_at u n).trans (hu n))), logp_at R y hR, live_at u t hu, ← EReal.coe_neg, ← EReal.coe_mul]
  congr 1
  unfold Maths.nll Maths.live
  split <;> ring

theorem before_at (T : IVec S4096x512 32) (b : Fin 4096) (l : Fin 512) (n : Fin 2097152) (h : n.val = b.val * 512 + l.val)
    (t : Fin 512 → Fin 4) (hT : ∀ l, T (ix2 b l) = BitVec.ofNat 32 (t l).val) : before T (ix1 n) = BitVec.ofNat 32 (Maths.before t l).val := by
  pointwise [before, Value.fn_main_v17]
  have hl : n.val % 512 = l.val := by have := l.isLt; omega
  have hb : n.val / 512 = b.val := by have := l.isLt; omega
  unfold Maths.before
  by_cases h0 : l.val = 0
  · rw [dif_pos (by omega), if_pos h0]; rfl
  · rw [dif_neg (by omega), if_neg h0]
    refine Eq.trans ?_ (hT _)
    congr 1
    simp only [hl, hb]

theorem base_power : Ideal.pow (Maths.base : EReal) (Ideal.div ((1 : ℝ) : EReal) ((512 : ℝ) : EReal)) = ((Real.rpow Maths.base (1 / 512) : ℝ) : EReal) := by
  rw [Ideal.div_coe (by norm_num), ← EReal.coe_mul, one_mul, Ideal.pow_coe_coe]

theorem smooth_at (n : Fin 2097152) : smooth (ix1 n) = (Maths.s : EReal) := by
  have z : smooth (ix1 n) = Ideal.ofBits .f32 0x3F800000#32 - Ideal.pow (Ideal.ofBits .f32 0x3F666666#32) (Ideal.div (Ideal.ofBits .f32 0x3F800000#32) (Ideal.ofBits .f32 0x44000000#32)) := rfl
  rw [z, Maths.bits_1, Maths.bits_base, Maths.bits_512, base_power, ← EReal.coe_sub]
  rfl

theorem slice_at (M : V S5x5x5) (a b c : Fin 4) : extractStridedSlice S4x4x4 ![0, 0, 0] M slices_S5x5x5_S4x4x4_0_0_0 (ix3 a b c)
    = M (ix3 a.castSucc b.castSucc c.castSucc) := by
  pointwise
  rfl

theorem pair53_0 (a b : IVec S2097152x1 32) (n : Fin 2097152) : Value.fn_main_v53 (F := Ideal) a b (ix2 n 0) = a (ix2 n 0) := by
  pointwise [Value.fn_main_v53]
theorem pair53_1 (a b : IVec S2097152x1 32) (n : Fin 2097152) : Value.fn_main_v53 (F := Ideal) a b (ix2 n 1) = b (ix2 n 0) := by
  pointwise [Value.fn_main_v53]
theorem pair73_0 (a b : IVec S2097152x1 32) (n : Fin 2097152) : Value.fn_main_v73 (F := Ideal) a b (ix2 n 0) = a (ix2 n 0) := by
  pointwise [Value.fn_main_v73]
theorem pair73_1 (a b : IVec S2097152x1 32) (n : Fin 2097152) : Value.fn_main_v73 (F := Ideal) a b (ix2 n 1) = b (ix2 n 0) := by
  pointwise [Value.fn_main_v73]

section Table
variable (M : V S5x5x5) (m : Fin 4 → Fin 4 → Fin 4 → ℝ)
  (hM : ∀ a b c : Fin 4, M (ix3 (n0 := 5) (n1 := 5) (n2 := 5) a.castSucc b.castSucc c.castSucc) = ((m a b c : ℝ) : EReal))
  (f u : IVec S2097152 32) (p t : Fin 2097152 → Fin 4) (hf : ∀ n, f (ix1 n) = BitVec.ofNat 32 (p n).val) (hu : ∀ n, u (ix1 n) = BitVec.ofNat 32 (t n).val)
include hM hf hu

theorem tableRows_at (n : Fin 2097152) (v : Fin 4) : tableRows M f u (ix2 n v) = ((Maths.s * m (p n) (t n) v : ℝ) : EReal) := by
  have g : Host.gather gather_S4x4x4_S2097152x2_S2097152x4_1_01_n_n_01_1_114 (extractStridedSlice S4x4x4 ![0, 0, 0] M slices_S5x5x5_S4x4x4_0_0_0)
      (Value.fn_main_v53 (F := Ideal) (wrap 4#32 f) (wrap 4#32 u)) (ix2 n v) = ((m (p n) (t n) v : ℝ) : EReal) := by
    refine (Moves.gather_row gather_S4x4x4_S2097152x2_S2097152x4_1_01_n_n_01_1_114_wf _ _ n (p n) (t n) v (by have := (p n).isLt; omega) (by have := (t n).isLt; omega) ?_ ?_).trans ?_
    · exact (pair53_0 _ _ n).trans (wrap_at f _ _ (by have := (p n).isLt; omega) n (hf n))
    · exact (pair53_1 _ _ n).trans (wrap_at u _ _ (by have := (t n).isLt; omega) n (hu n))
    · exact (slice_at M _ _ _).trans (hM _ _ _)
  rw [tableRows, mulf_at, spread_at, smooth_at, g, ← EReal.coe_mul]

theorem iota_at (n : Fin 2097152) : iotaInDim S2097152 32 0 (ix1 n) = BitVec.ofNat 32 n.val := rfl

theorem setRows_at (n : Fin 2097152) (v : Fin 4) : setRows (tableRows M f u) u (ix2 n v) = (Maths.weight m (p n) (t n) v : EReal) := by
  refine (Moves.scatter_cells (by norm_num) scatter_S2097152x4_S2097152x2_S2097152_n_01_01_1_wf (tableRows M f u) _ _ (fun k => (t k).val)
    (fun k => by have := (t k).isLt; omega) (fun k => ?_) (fun k => ?_) n v).trans ?_
  · exact (pair73_0 _ _ k).trans (wrap_at _ _ _ (by have := k.isLt; omega) k rfl)
  · exact (pair73_1 _ _ k).trans (wrap_at u _ _ (by have := (t k).isLt; omega) k (hu k))
  · have d := tableRows_at M m hM f u p t hf hu
    unfold Maths.weight
    by_cases h : v = t n
    · rw [if_pos (congrArg Fin.val h), if_pos h, subf_at, rowSum_at, d, d, d, d, ← EReal.coe_add, ← EReal.coe_add, ← EReal.coe_add]
      refine (congrArg (· - _) Maths.bits_1).trans ?_
      exact (EReal.coe_sub _ _).symm
    · rw [if_neg (fun q => h (Fin.ext q)), if_neg h, d]

end Table

theorem wlogw_at (W : V S2097152x4) (n : Fin 2097152) (v : Fin 4) (w : ℝ) (h : W (ix2 n v) = (w : EReal)) : wlogw W (ix2 n v) = Maths.q w := by
  have z : wlogw W (ix2 n v) = (Scalar.select (IntOp.ori (Ideal.cmp .une (W (ix2 n v)) (Ideal.ofBits .f32 0x00000000#32)) (Ideal.cmp .une (W (ix2 n v)) (W (ix2 n v))))
      ((W (ix2 n v) : EReal) * Ideal.log (W (ix2 n v))) (Ideal.ofBits .f32 0x00000000#32) : EReal) := rfl
  rw [z, h, Ideal.ofBits_zero_f32]
  exact Maths.select_q w

/-- The row of a flattened position. -/
def bn (n : Fin 2097152) : Fin 4096 := ⟨n.val / 512, by have := n.isLt; omega⟩
/-- The column of a flattened position. -/
def ln (n : Fin 2097152) : Fin 512 := ⟨n.val % 512, Nat.mod_lt _ (by omega)⟩
theorem n_eq (n : Fin 2097152) : n.val = (bn n).val * 512 + (ln n).val := by show n.val = n.val / 512 * 512 + n.val % 512; omega
theorem bn_eq (b : Fin 4096) (l : Fin 512) (n : Fin 2097152) (h : n.val = b.val * 512 + l.val) : bn n = b :=
  Fin.ext (by show n.val / 512 = b.val; have := l.isLt; omega)
theorem ln_eq (b : Fin 4096) (l : Fin 512) (n : Fin 2097152) (h : n.val = b.val * 512 + l.val) : ln n = l :=
  Fin.ext (by show n.val % 512 = l.val; have := l.isLt; omega)
theorem count : 2097152 = 4096 * 512 := by norm_num

theorem rows_at (X : V S4096x512x4) (n : Fin 2097152) (v : Fin 4) : rows X (ix2 n v) = X (ix3 (bn n) (ln n) v) := by
  pointwise [rows]
  rfl

theorem flat_at (T : IVec S4096x512 32) (n : Fin 2097152) : flat T (ix1 n) = T (ix2 (bn n) (ln n)) := by
  pointwise [flat]
  rfl

/-- The sum over positions. -/
theorem positions (f : Fin 2097152 → EReal) (g : Fin 4096 → Fin 512 → EReal) (h : ∀ n, f n = g (bn n) (ln n)) : ∑ n, f n = ∑ b, ∑ l, g b l :=
  Folds.sum_flat count f g fun b l n e => by rw [h, bn_eq b l n e, ln_eq b l n e]

section Whole
variable (R : V S2097152x4) (y : Fin 4096 → Fin 512 → Fin 4 → ℝ) (hR : ∀ n v, R (ix2 n v) = ((y (bn n) (ln n) v : ℝ) : EReal))
  (u : IVec S2097152 32) (t : Fin 4096 → Fin 512 → Fin 4) (hu : ∀ n, u (ix1 n) = BitVec.ofNat 32 (t (bn n) (ln n)).val) (j : S_.Idx)

include hR hu in
theorem nllSum_at : vecSum (nll R u) j = ∑ b, ∑ l, (Maths.nll (y b l) (t b l) : EReal) :=
  (Folds.vecSum _ reducesTo_S2097152_S_d0 h_S_ j).trans
    (positions _ _ fun n => nll_at R (fun n => y (bn n) (ln n)) hR u (fun n => t (bn n) (ln n)) hu n)

include hu in
theorem liveSum_at : vecSum (live u) j = ∑ b, ∑ l, (Maths.live (t b l) : EReal) :=
  (Folds.vecSum _ reducesTo_S2097152_S_d0 h_S_ j).trans
    (positions _ _ fun n => live_at u (fun n => t (bn n) (ln n)) hu n)

include hR in
theorem klRow_at (W : V S2097152x4) (w : Fin 4096 → Fin 512 → Fin 4 → ℝ) (hW : ∀ n v, W (ix2 n v) = (w (bn n) (ln n) v : EReal)) (n : Fin 2097152) (v : Fin 4) :
    subf (wlogw W) (mulf W (prob R)) (ix2 n v) = Maths.q (w (bn n) (ln n) v) - ((w (bn n) (ln n) v * Maths.prob (y (bn n) (ln n)) v : ℝ) : EReal) := by
  rw [subf_at, mulf_at, wlogw_at W n v _ (hW n v), hW, prob_at R (fun n => y (bn n) (ln n)) hR, ← EReal.coe_mul]

include hR in
theorem klSum_at (W : V S2097152x4) (w : Fin 4096 → Fin 512 → Fin 4 → ℝ) (hW : ∀ n v, W (ix2 n v) = (w (bn n) (ln n) v : EReal)) :
    Host.reduceAdd (subf (wlogw W) (mulf W (prob R))) (constant S_ .f32 0x00000000#32) reducesTo_S2097152x4_S_d0_1 h_S_ j
      = (∑ b, ∑ l, (Maths.q (w b l 0) + Maths.q (w b l 1) + Maths.q (w b l 2) + Maths.q (w b l 3)))
        - ∑ b, ∑ l, ((w b l 0 * Maths.prob (y b l) 0 + w b l 1 * Maths.prob (y b l) 1 + w b l 2 * Maths.prob (y b l) 2 + w b l 3 * Maths.prob (y b l) 3 : ℝ) : EReal) := by
  refine (Folds.tableSum _ reducesTo_S2097152x4_S_d0_1 h_S_ j).trans ?_
  refine (positions _ (fun b l => (Maths.q (w b l 0) + Maths.q (w b l 1) + Maths.q (w b l 2) + Maths.q (w b l 3))
    - ((w b l 0 * Maths.prob (y b l) 0 + w b l 1 * Maths.prob (y b l) 1 + w b l 2 * Maths.prob (y b l) 2 + w b l 3 * Maths.prob (y b l) 3 : ℝ) : EReal)) fun n => ?_).trans ?_
  · rw [Fin.sum_univ_four, klRow_at R y hR W w hW, klRow_at R y hR W w hW, klRow_at R y hR W w hW, klRow_at R y hR W w hW, Maths.four_sub_coe]
  · exact Maths.sum_sub_coe2 _ _

end Whole

theorem ce_at (R : V S2097152x4) (u : IVec S2097152 32) (j : S_.Idx) : ce R u j = Ideal.div (vecSum (nll R u) j) (vecSum (live u) j) := by
  rw [ce, divf_at]
theorem kl_at (W P : V S2097152x4) (j : S_.Idx) : kl W P j
    = Ideal.div (Host.reduceAdd (subf (wlogw W) (mulf W P)) (constant S_ .f32 0x00000000#32) reducesTo_S2097152x4_S_d0_1 h_S_ j) (Ideal.ofBits .f32 0x4B000000#32) := by
  rw [kl, divf_at]
  rfl
theorem addf_at {S : Shape} (a b : V S) (i : S.Idx) : addf a b i = (a i : EReal) + (b i : EReal) := rfl

/-- The reference's loss of real logits, class targets and a real table. -/
theorem loss_at (X : V S4096x512x4) (T : IVec S4096x512 32) (M : V S5x5x5) (x : Fin 4096 → Fin 512 → Fin 4 → ℝ) (t : Fin 4096 → Fin 512 → Fin 4) (m : Fin 4 → Fin 4 → Fin 4 → ℝ)
    (hX : ∀ b l v, X (ix3 b l v) = ((x b l v : ℝ) : EReal)) (hT : ∀ b l, T (ix2 b l) = BitVec.ofNat 32 (t b l).val)
    (hM : ∀ a b c : Fin 4, M (ix3 (n0 := 5) (n1 := 5) (n2 := 5) a.castSucc b.castSucc c.castSucc) = ((m a b c : ℝ) : EReal))
    (j : S_.Idx) : loss X T M j = Maths.loss x t m := by
  have hR : ∀ n v, rows X (ix2 n v) = ((x (bn n) (ln n) v : ℝ) : EReal) := fun n v => (rows_at X n v).trans (hX _ _ _)
  have hu : ∀ n, flat T (ix1 n) = BitVec.ofNat 32 (t (bn n) (ln n)).val := fun n => (flat_at T n).trans (hT _ _)
  have hf : ∀ n, before T (ix1 n) = BitVec.ofNat 32 (Maths.before (t (bn n)) (ln n)).val := fun n => before_at T _ _ n (n_eq n) _ (hT _)
  have hW := setRows_at M m hM (before T) (flat T) (fun n => Maths.before (t (bn n)) (ln n)) (fun n => t (bn n) (ln n)) hf hu
  rw [loss, addf_at, ce_at, kl_at, nllSum_at (rows X) x hR (flat T) t hu, liveSum_at (flat T) t hu,
    klSum_at (rows X) x hR j _ (fun b l v => Maths.weight m (Maths.before (t b) l) (t b l) v) hW, Maths.bits_8388608]
  rfl

end Cert.ReferenceIdeal.Stages

end
-- ==== Proof.Range.lean ====
/- What the precondition says of the arguments: the logits and the table's used corner are real, the targets are classes. -/
module

public import proofs.«01_k».proof.Defs
public import Idealize.ShloMosaic.Lib.ReduceAll
public import Idealize.ShloMosaic.Lib.Pointwise
public import Idealize.ShloMosaic.PureOps.Ideal
public import Idealize.ShloMosaic.PureOps.Ideal.Laws

@[expose] public section

set_option maxRecDepth 16384

namespace Cert.Range

open Idealize.ShloMosaic Cert.Pre_finite_in_range

theorem facts : Cert.Pre_finite_in_range.Facts where
  bcast_S_S4096x512x4 := by decide
  reducesTo_S4096x512x4_S_d0_1_2 := by decide
  h_S_ := by decide
  slices_S5x5x5_S4x4x4_0_0_0 := by decide
  bcast_S_S4x4x4 := by decide
  reducesTo_S4x4x4_S_d0_1_2 := by decide
  bcast_S_S4096x512 := by decide
  reducesTo_S4096x512_S_d0_1 := by decide

theorem bits_top : Ideal.ofBits .f32 0x7F800000#32 = ⊤ := by
  simp [Ideal.ofBits, Ideal.ieee]

/-- An extended real of absolute value below the top is real. -/
theorem real_of_abs (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- A word of at least zero and below four is a class. -/
theorem class_of_range (w : BitVec 32) (h : IntOp.andi (IntOp.cmpi .sge w 0#32) (IntOp.cmpi .slt w 4#32) = 1#1) : ∃ t : Fin 4, w = BitVec.ofNat 32 t.val := by
  have e : ∀ p q : Bool, IntOp.andi (BitVec.ofBool p) (BitVec.ofBool q) = 1#1 → p = true ∧ q = true := by decide
  obtain ⟨h0, h1⟩ := e _ _ h
  have a : 0 ≤ w.toInt := by simpa [BitVec.sle] using h0
  have b : w.toInt < 4 := by simpa [BitVec.slt] using h1
  have k : w.toInt.toNat < 4 := by omega
  refine ⟨⟨w.toInt.toNat, k⟩, BitVec.eq_of_toInt_eq ?_⟩
  have z : ∀ n < 4, (BitVec.ofNat 32 n).toInt = (n : ℤ) := by decide
  rw [z _ k]
  omega

attribute [local instance] facts

theorem both (a b : IVec S_ 1) (j : S_.Idx) (h : andi a b j = 1#1) : a j = 1#1 ∧ b j = 1#1 := by
  have z : IntOp.andi (a j) (b j) = 1#1 := h
  generalize a j = p at *
  generalize b j = q at *
  clear h
  revert p q; decide

instance : Subsingleton S_.Idx := ⟨fun a b => funext fun k => k.elim0⟩

theorem unpack (x : FVec Ideal S4096x512x4 .f32) (t : IVec S4096x512 32) (d : FVec Ideal S1 .f32) (l : IVec S4096x511 32) (M : FVec Ideal S5x5x5 .f32)
    (h : fn x t d l M = fun _ => 1#1) :
    (∀ i, ∃ r : ℝ, x i = (r : EReal))
      ∧ (∀ a b c : Fin 4, ∃ r : ℝ, M (ix3 (n0 := 5) (n1 := 5) (n2 := 5) a.castSucc b.castSucc c.castSucc) = (r : EReal))
      ∧ ∀ i, ∃ k : Fin 4, t i = BitVec.ofNat 32 k.val := by
  have h' := congrFun h ix0
  unfold fn at h'
  obtain ⟨h01, h2⟩ := both _ _ _ h'
  obtain ⟨h0, h1⟩ := both _ _ _ h01
  refine ⟨fun i => ?_, fun a b c => ?_, fun i => ?_⟩
  · have e := Host.reduce_andi_all _ _ _ _ _ h0 i
    have e' : Ideal.cmp .olt (max (x i) (-x i)) (Ideal.ofBits .f32 0x7F800000#32) = 1#1 := e
    rw [bits_top] at e'
    exact real_of_abs _ e'
  · have e := Host.reduce_andi_all _ _ _ _ _ h1 (ix3 a b c)
    have z : extractStridedSlice S4x4x4 ![0, 0, 0] M Facts.slices_S5x5x5_S4x4x4_0_0_0 (ix3 a b c) = M (ix3 (n0 := 5) (n1 := 5) (n2 := 5) a.castSucc b.castSucc c.castSucc) := by
      pointwise
      rfl
    have e' : Ideal.cmp .olt (max (extractStridedSlice S4x4x4 ![0, 0, 0] M Facts.slices_S5x5x5_S4x4x4_0_0_0 (ix3 a b c)) (-(extractStridedSlice S4x4x4 ![0, 0, 0] M Facts.slices_S5x5x5_S4x4x4_0_0_0 (ix3 a b c)))) (Ideal.ofBits .f32 0x7F800000#32) = 1#1 := e
    rw [bits_top, z] at e'
    exact real_of_abs _ e'
  · exact class_of_range _ (Host.reduce_andi_all _ _ _ _ _ h2 i)

end Cert.Range

end
-- ==== Proof.lean ====
/- The proof of the claims: the three frames, that the kernel's ideal program is its own program, and that over the
   extended real numbers the kernel's result is the reference's wherever the logits and the table are real and the targets are classes. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import proofs.«01_k».proof.Proof.Kernel.Main
public import proofs.«01_k».proof.Proof.KernelIdeal.Result
public import proofs.«01_k».proof.Proof.ReferenceIdeal.Value
public import proofs.«01_k».proof.Proof.Range

@[expose] public section

noncomputable section

namespace Cert.Proof

open Idealize.ShloMosaic Idealize.ShloMosaic.TcCoe Idealize.SL.Sem Cert.Kernel

attribute [local instance] Cert.Range.facts

theorem frame_kernel : Cert.quiescent_Kernel := fun m g _ =>
  (θ_run _ _ _).mono (fun _ h => ⟨fun c => ⟨h.1 c _ (by decide), h.1 c _ (by decide), h.1 c _ (by decide), h.1 c _ (by decide), h.1 c _ (by decide)⟩, h.2⟩) (Cert.Kernel.Run.frame_run m g)

theorem quiet_kernelIdeal : Cert.quiescent_KernelIdeal := fun m g _ =>
  (θ_run _ _ _).mono (fun _ h => ⟨fun c => ⟨h.1 c _ (by decide), h.1 c _ (by decide), h.1 c _ (by decide), h.1 c _ (by decide), h.1 c _ (by decide)⟩, h.2⟩) (Cert.KernelIdeal.Run.frame_run m g)

theorem quiet_referenceIdeal : Cert.quiescent_ReferenceIdeal := fun m g _ =>
  (θ_run Cert.ReferenceIdeal.defs _ _).mono (fun r h => ⟨fun c => (h c).2, Idealize.ShloMosaic.sem_eq_zero_of_no_sems (by decide) r.2⟩) (Cert.ReferenceIdeal.Value.run (F := Ideal) m g)

/-- THE VALUE: both results are the loss of the same reals. -/
theorem value : Cert.algebraic_KernelIdeal_ReferenceIdeal_pre_finite_in_range := fun m g m' g' hp ha => by
  have res : ∀ c : Dev Cert.KernelIdeal.nD, Cert.ReferenceIdeal.Value.res_main_v87 m' c = Cert.KernelIdeal.Run.Wend m c (Proc.devRef .tc Cert.KernelIdeal.main_v84) := fun c => by
    obtain ⟨h0, h4, h1⟩ := Cert.Range.unpack _ _ _ _ _ (hp c)
    choose x hx using h0
    choose k hk using h4
    choose t ht using h1
    obtain ⟨e0, e1, -, -, e4⟩ := ha c
    funext j
    rw [Cert.ReferenceIdeal.Stages.res_eq]
    refine (Cert.ReferenceIdeal.Stages.loss_at _ _ _ (fun b l v => x (ix3 b l v)) (fun b l => t (ix2 b l)) k ?_ ?_ ?_ j).trans
      (Cert.KernelIdeal.Host.result_at m c (fun b l v => x (ix3 b l v)) (fun b l => t (ix2 b l)) k ?_ ?_ ?_ j).symm
    · exact fun b l v => (congrFun e0 _).trans (hx _)
    · exact fun b l => (congrFun e1 _).trans (ht _)
    · exact fun a b d => (congrFun e4 _).trans (hk a b d)
    · exact fun b l v => hx _
    · exact fun b l => ht _
    · exact fun a b d => hk a b d
  refine ⟨fun c => Cert.KernelIdeal.Run.Wend m c (Proc.devRef .tc Cert.KernelIdeal.main_v84), ?_, ?_⟩
  · exact (θ_run _ _ _).mono (fun _ h c => ⟨(h c).1, (h c).2 _ (by decide), (h c).2 _ (by decide), (h c).2 _ (by decide), (h c).2 _ (by decide), (h c).2 _ (by decide)⟩)
      (Cert.KernelIdeal.Run.result_run m g)
  · exact (θ_run Cert.ReferenceIdeal.defs _ _).mono (fun _ h c => ⟨(h c).1.trans (res c), (h c).2⟩) (Cert.ReferenceIdeal.Value.run (F := Ideal) m' g')

theorem claim : Cert.Claim :=
  ⟨Cert.Kernel.Gen.facts, Cert.KernelIdeal.Gen.facts, Cert.ReferenceIdeal.Gen.facts, Cert.Range.facts,
    frame_kernel, quiet_kernelIdeal, fun m g _ => quiet_kernelIdeal m g trivial, quiet_referenceIdeal, fun m g _ => quiet_referenceIdeal m g trivial, trivial, value⟩

end Cert.Proof

end
